-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v11)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
-- ==== Kernel.lean ====
abbrev S4x8192x1024 : Shape := ⟨3, ![4, 8192, 1024]⟩
abbrev S_ : Shape := ⟨0, ![]⟩
abbrev S1 : Shape := ⟨1, ![1]⟩
abbrev S2 : Shape := ⟨1, ![2]⟩
abbrev S1x1 : Shape := ⟨2, ![1, 1]⟩
abbrev S4096x8192 : Shape := ⟨2, ![4096, 8192]⟩
abbrev S32x8x128 : Shape := ⟨3, ![32, 8, 128]⟩
abbrev S1x8192x128 : Shape := ⟨3, ![1, 8192, 128]⟩
abbrev S128x8192 : Shape := ⟨2, ![128, 8192]⟩
abbrev S1x8x128 : Shape := ⟨3, ![1, 8, 128]⟩
abbrev S8192x128 : Shape := ⟨2, ![8192, 128]⟩
abbrev S128 : Shape := ⟨1, ![128]⟩
abbrev S1x128 : Shape := ⟨2, ![1, 128]⟩
abbrev S64x128x128 : Shape := ⟨3, ![64, 128, 128]⟩
abbrev S64x128 : Shape := ⟨2, ![64, 128]⟩
abbrev S1x1x128 : Shape := ⟨3, ![1, 1, 128]⟩
abbrev S1x1x1 : Shape := ⟨3, ![1, 1, 1]⟩
abbrev S8x128 : Shape := ⟨2, ![8, 128]⟩
abbrev S32x1x128 : Shape := ⟨3, ![32, 1, 128]⟩
abbrev S32x128 : Shape := ⟨2, ![32, 128]⟩
abbrev S4x1024 : Shape := ⟨2, ![4, 1024]⟩

abbrev nBuf : Space → Nat
  | .hbm => 282
  | .vmem => 6
  | .smem => 0
  | _ => 0

abbrev hbmTy0_0 (i : Nat) : BufTy := match i % 128 with
  | 0 => ⟨S4x8192x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S4096x8192, .i64⟩
  | 21 => ⟨S4096x8192, .i64⟩
  | 22 => ⟨S_, .i64⟩
  | 23 => ⟨S4096x8192, .i64⟩
  | 24 => ⟨S4096x8192, .i64⟩
  | 25 => ⟨S_, .i64⟩
  | 26 => ⟨S4096x8192, .i64⟩
  | 27 => ⟨S4096x8192, .i64⟩
  | 28 => ⟨S4096x8192, .i64⟩
  | 29 => ⟨S_, .i64⟩
  | 30 => ⟨S4096x8192, .i64⟩
  | 31 => ⟨S4096x8192, .i64⟩
  | 32 => ⟨S4096x8192, .i32⟩
  | 33 => ⟨S4096x8192, .i32⟩
  | 34 => ⟨S_, .i32⟩
  | 35 => ⟨S_, .i32⟩
  | 36 => ⟨S_, .i32⟩
  | 37 => ⟨S4096x8192, .i32⟩
  | 38 => ⟨S4096x8192, .i32⟩
  | 39 => ⟨S4096x8192, .i32⟩
  | 40 => ⟨S4096x8192, .i32⟩
  | 41 => ⟨S4096x8192, .i32⟩
  | 42 => ⟨S_, .i32⟩
  | 43 => ⟨S4096x8192, .i32⟩
  | 44 => ⟨S4096x8192, .i32⟩
  | 45 => ⟨S_, .i32⟩
  | 46 => ⟨S4096x8192, .i32⟩
  | 47 => ⟨S4096x8192, .i32⟩
  | 48 => ⟨S4096x8192, .i32⟩
  | 49 => ⟨S4096x8192, .i32⟩
  | 50 => ⟨S4096x8192, .i32⟩
  | 51 => ⟨S_, .i32⟩
  | 52 => ⟨S4096x8192, .i32⟩
  | 53 => ⟨S4096x8192, .i32⟩
  | 54 => ⟨S_, .i32⟩
  | 55 => ⟨S4096x8192, .i32⟩
  | 56 => ⟨S4096x8192, .i32⟩
  | 57 => ⟨S4096x8192, .i32⟩
  | 58 => ⟨S4096x8192, .i32⟩
  | 59 => ⟨S4096x8192, .i32⟩
  | 60 => ⟨S_, .i32⟩
  | 61 => ⟨S4096x8192, .i32⟩
  | 62 => ⟨S4096x8192, .i32⟩
  | 63 => ⟨S_, .i32⟩
  | 64 => ⟨S4096x8192, .i32⟩
  | 65 => ⟨S4096x8192, .i32⟩
  | 66 => ⟨S4096x8192, .i32⟩
  | 67 => ⟨S4096x8192, .i32⟩
  | 68 => ⟨S4096x8192, .i32⟩
  | 69 => ⟨S_, .i32⟩
  | 70 => ⟨S4096x8192, .i32⟩
  | 71 => ⟨S4096x8192, .i32⟩
  | 72 => ⟨S_, .i32⟩
  | 73 => ⟨S4096x8192, .i32⟩
  | 74 => ⟨S4096x8192, .i32⟩
  | 75 => ⟨S4096x8192, .i32⟩
  | 76 => ⟨S4096x8192, .i32⟩
  | 77 => ⟨S4096x8192, .i32⟩
  | 78 => ⟨S4096x8192, .i32⟩
  | 79 => ⟨S4096x8192, .i32⟩
  | 80 => ⟨S4096x8192, .i32⟩
  | 81 => ⟨S_, .i32⟩
  | 82 => ⟨S4096x8192, .i32⟩
  | 83 => ⟨S4096x8192, .i32⟩
  | 84 => ⟨S4096x8192, .i32⟩
  | 85 => ⟨S_, .i32⟩
  | 86 => ⟨S4096x8192, .i32⟩
  | 87 => ⟨S4096x8192, .i32⟩
  | 88 => ⟨S_, .i32⟩
  | 89 => ⟨S4096x8192, .i32⟩
  | 90 => ⟨S4096x8192, .i32⟩
  | 91 => ⟨S4096x8192, .i32⟩
  | 92 => ⟨S4096x8192, .i32⟩
  | 93 => ⟨S4096x8192, .i32⟩
  | 94 => ⟨S_, .i32⟩
  | 95 => ⟨S4096x8192, .i32⟩
  | 96 => ⟨S4096x8192, .i32⟩
  | 97 => ⟨S_, .i32⟩
  | 98 => ⟨S4096x8192, .i32⟩
  | 99 => ⟨S4096x8192, .i32⟩
  | 100 => ⟨S4096x8192, .i32⟩
  | 101 => ⟨S4096x8192, .i32⟩
  | 102 => ⟨S4096x8192, .i32⟩
  | 103 => ⟨S_, .i32⟩
  | 104 => ⟨S4096x8192, .i32⟩
  | 105 => ⟨S4096x8192, .i32⟩
  | 106 => ⟨S_, .i32⟩
  | 107 => ⟨S4096x8192, .i32⟩
  | 108 => ⟨S4096x8192, .i32⟩
  | 109 => ⟨S4096x8192, .i32⟩
  | 110 => ⟨S4096x8192, .i32⟩
  | 111 => ⟨S4096x8192, .i32⟩
  | 112 => ⟨S_, .i32⟩
  | 113 => ⟨S4096x8192, .i32⟩
  | 114 => ⟨S4096x8192, .i32⟩
  | 115 => ⟨S_, .i32⟩
  | 116 => ⟨S4096x8192, .i32⟩
  | 117 => ⟨S4096x8192, .i32⟩
  | 118 => ⟨S4096x8192, .i32⟩
  | 119 => ⟨S4096x8192, .i32⟩
  | 120 => ⟨S4096x8192, .i32⟩
  | 121 => ⟨S4096x8192, .i32⟩
  | 122 => ⟨S4096x8192, .i32⟩
  | 123 => ⟨S4096x8192, .i32⟩
  | 124 => ⟨S_, .i32⟩
  | 125 => ⟨S4096x8192, .i32⟩
  | 126 => ⟨S4096x8192, .i32⟩
  | 127 => ⟨S4096x8192, .i32⟩
  | _ => ⟨S4x8192x1024, .f32⟩

abbrev hbmTy0_1 (i : Nat) : BufTy := match i % 128 with
  | 0 => ⟨S_, .i32⟩
  | 1 => ⟨S4096x8192, .i32⟩
  | 2 => ⟨S4096x8192, .i32⟩
  | 3 => ⟨S_, .i32⟩
  | 4 => ⟨S4096x8192, .i32⟩
  | 5 => ⟨S4096x8192, .i32⟩
  | 6 => ⟨S4096x8192, .i32⟩
  | 7 => ⟨S4096x8192, .i32⟩
  | 8 => ⟨S4096x8192, .i32⟩
  | 9 => ⟨S_, .i32⟩
  | 10 => ⟨S4096x8192, .i32⟩
  | 11 => ⟨S4096x8192, .i32⟩
  | 12 => ⟨S_, .i32⟩
  | 13 => ⟨S4096x8192, .i32⟩
  | 14 => ⟨S4096x8192, .i32⟩
  | 15 => ⟨S4096x8192, .i32⟩
  | 16 => ⟨S4096x8192, .i32⟩
  | 17 => ⟨S4096x8192, .i32⟩
  | 18 => ⟨S_, .i32⟩
  | 19 => ⟨S4096x8192, .i32⟩
  | 20 => ⟨S4096x8192, .i32⟩
  | 21 => ⟨S_, .i32⟩
  | 22 => ⟨S4096x8192, .i32⟩
  | 23 => ⟨S4096x8192, .i32⟩
  | 24 => ⟨S4096x8192, .i32⟩
  | 25 => ⟨S4096x8192, .i32⟩
  | 26 => ⟨S4096x8192, .i32⟩
  | 27 => ⟨S_, .i32⟩
  | 28 => ⟨S4096x8192, .i32⟩
  | 29 => ⟨S4096x8192, .i32⟩
  | 30 => ⟨S_, .i32⟩
  | 31 => ⟨S4096x8192, .i32⟩
  | 32 => ⟨S4096x8192, .i32⟩
  | 33 => ⟨S4096x8192, .i32⟩
  | 34 => ⟨S4096x8192, .i32⟩
  | 35 => ⟨S4096x8192, .i32⟩
  | 36 => ⟨S4096x8192, .i32⟩
  | 37 => ⟨S4096x8192, .i32⟩
  | 38 => ⟨S4096x8192, .i32⟩
  | 39 => ⟨S_, .i32⟩
  | 40 => ⟨S4096x8192, .i32⟩
  | 41 => ⟨S4096x8192, .i32⟩
  | 42 => ⟨S4096x8192, .i32⟩
  | 43 => ⟨S_, .i32⟩
  | 44 => ⟨S4096x8192, .i32⟩
  | 45 => ⟨S4096x8192, .i32⟩
  | 46 => ⟨S_, .i32⟩
  | 47 => ⟨S4096x8192, .i32⟩
  | 48 => ⟨S4096x8192, .i32⟩
  | 49 => ⟨S4096x8192, .i32⟩
  | 50 => ⟨S4096x8192, .i32⟩
  | 51 => ⟨S4096x8192, .i32⟩
  | 52 => ⟨S_, .i32⟩
  | 53 => ⟨S4096x8192, .i32⟩
  | 54 => ⟨S4096x8192, .i32⟩
  | 55 => ⟨S_, .i32⟩
  | 56 => ⟨S4096x8192, .i32⟩
  | 57 => ⟨S4096x8192, .i32⟩
  | 58 => ⟨S4096x8192, .i32⟩
  | 59 => ⟨S4096x8192, .i32⟩
  | 60 => ⟨S4096x8192, .i32⟩
  | 61 => ⟨S_, .i32⟩
  | 62 => ⟨S4096x8192, .i32⟩
  | 63 => ⟨S4096x8192, .i32⟩
  | 64 => ⟨S_, .i32⟩
  | 65 => ⟨S4096x8192, .i32⟩
  | 66 => ⟨S4096x8192, .i32⟩
  | 67 => ⟨S4096x8192, .i32⟩
  | 68 => ⟨S4096x8192, .i32⟩
  | 69 => ⟨S4096x8192, .i32⟩
  | 70 => ⟨S_, .i32⟩
  | 71 => ⟨S4096x8192, .i32⟩
  | 72 => ⟨S4096x8192, .i32⟩
  | 73 => ⟨S_, .i32⟩
  | 74 => ⟨S4096x8192, .i32⟩
  | 75 => ⟨S4096x8192, .i32⟩
  | 76 => ⟨S4096x8192, .i32⟩
  | 77 => ⟨S4096x8192, .i32⟩
  | 78 => ⟨S4096x8192, .i32⟩
  | 79 => ⟨S4096x8192, .i32⟩
  | 80 => ⟨S4096x8192, .i32⟩
  | 81 => ⟨S4096x8192, .i32⟩
  | 82 => ⟨S_, .i32⟩
  | 83 => ⟨S4096x8192, .i32⟩
  | 84 => ⟨S4096x8192, .i32⟩
  | 85 => ⟨S4096x8192, .i32⟩
  | 86 => ⟨S_, .i32⟩
  | 87 => ⟨S4096x8192, .i32⟩
  | 88 => ⟨S4096x8192, .i32⟩
  | 89 => ⟨S_, .i32⟩
  | 90 => ⟨S4096x8192, .i32⟩
  | 91 => ⟨S4096x8192, .i32⟩
  | 92 => ⟨S4096x8192, .i32⟩
  | 93 => ⟨S4096x8192, .i32⟩
  | 94 => ⟨S4096x8192, .i32⟩
  | 95 => ⟨S_, .i32⟩
  | 96 => ⟨S4096x8192, .i32⟩
  | 97 => ⟨S4096x8192, .i32⟩
  | 98 => ⟨S_, .i32⟩
  | 99 => ⟨S4096x8192, .i32⟩
  | 100 => ⟨S4096x8192, .i32⟩
  | 101 => ⟨S4096x8192, .i32⟩
  | 102 => ⟨S4096x8192, .i32⟩
  | 103 => ⟨S4096x8192, .i32⟩
  | 104 => ⟨S_, .i32⟩
  | 105 => ⟨S4096x8192, .i32⟩
  | 106 => ⟨S4096x8192, .i32⟩
  | 107 => ⟨S_, .i32⟩
  | 108 => ⟨S4096x8192, .i32⟩
  | 109 => ⟨S4096x8192, .i32⟩
  | 110 => ⟨S4096x8192, .i32⟩
  | 111 => ⟨S4096x8192, .i32⟩
  | 112 => ⟨S4096x8192, .i32⟩
  | 113 => ⟨S_, .i32⟩
  | 114 => ⟨S4096x8192, .i32⟩
  | 115 => ⟨S4096x8192, .i32⟩
  | 116 => ⟨S_, .i32⟩
  | 117 => ⟨S4096x8192, .i32⟩
  | 118 => ⟨S4096x8192, .i32⟩
  | 119 => ⟨S4096x8192, .i32⟩
  | 120 => ⟨S4096x8192, .i32⟩
  | 121 => ⟨S4096x8192, .i32⟩
  | 122 => ⟨S4096x8192, .i32⟩
  | 123 => ⟨S4096x8192, .i32⟩
  | 124 => ⟨S4096x8192, .i32⟩
  | 125 => ⟨S_, .i32⟩
  | 126 => ⟨S4096x8192, .i32⟩
  | 127 => ⟨S4096x8192, .i32⟩
  | _ => ⟨S4x8192x1024, .f32⟩

abbrev hbmTy0_2 (i : Nat) : BufTy := match i % 128 with
  | 0 => ⟨S4096x8192, .i32⟩
  | 1 => ⟨S_, .i32⟩
  | 2 => ⟨S4096x8192, .i32⟩
  | 3 => ⟨S4096x8192, .i32⟩
  | 4 => ⟨S_, .i32⟩
  | 5 => ⟨S4096x8192, .i32⟩
  | 6 => ⟨S4096x8192, .i32⟩
  | 7 => ⟨S4096x8192, .f32⟩
  | 8 => ⟨S_, .f32⟩
  | 9 => ⟨S4096x8192, .f32⟩
  | 10 => ⟨S4096x8192, .f32⟩
  | 11 => ⟨S1x1, .f32⟩
  | 12 => ⟨S4096x8192, .f32⟩
  | 13 => ⟨S4096x8192, .f32⟩
  | 14 => ⟨S4096x8192, .f32⟩
  | 15 => ⟨S4096x8192, .f32⟩
  | 16 => ⟨S4096x8192, .f32⟩
  | 17 => ⟨S4096x8192, .f32⟩
  | 18 => ⟨S4096x8192, .f32⟩
  | 19 => ⟨S4096x8192, .f32⟩
  | 20 => ⟨S4096x8192, .f32⟩
  | 21 => ⟨S4096x8192, .f32⟩
  | 22 => ⟨S32x8x128, .f32⟩
  | 23 => ⟨S32x1x128, .f32⟩
  | 24 => ⟨S32x128, .f32⟩
  | 25 => ⟨S4x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S1x8192x128, .f32⟩
  | .local _ .vmem, ⟨1, _⟩ => ⟨S1x8192x128, .f32⟩
  | .local _ .vmem, ⟨2, _⟩ => ⟨S128x8192, .f32⟩
  | .local _ .vmem, ⟨3, _⟩ => ⟨S128x8192, .f32⟩
  | .local _ .vmem, ⟨4, _⟩ => ⟨S1x8x128, .f32⟩
  | .local _ .vmem, ⟨5, _⟩ => ⟨S1x8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c32_i32 : BitVec 32 := 32#32
  let v29 : BitVec 32 := Scalar.addi c0_i32 c32_i32
  let c1_i32 : BitVec 32 := 1#32
  ⟨c0_i32, v29, c1_i32⟩
@[reducible] def k0_t2_loop : Scf.Loop 32 :=
  let c0_i32_13 : BitVec 32 := 0#32
  let c30_i32 : BitVec 32 := 30#32
  let v44 : BitVec 32 := Scalar.addi c0_i32_13 c30_i32
  let c1_i32_14 : BitVec 32 := 1#32
  ⟨c0_i32_13, v44, c1_i32_14⟩
def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x8192x1024 : Shape := ⟨3, ![4, 8192, 1024]⟩
abbrev S_ : Shape := ⟨0, ![]⟩
abbrev S1 : Shape := ⟨1, ![1]⟩
abbrev S2 : Shape := ⟨1, ![2]⟩
abbrev S1x1 : Shape := ⟨2, ![1, 1]⟩
abbrev S4096x8192 : Shape := ⟨2, ![4096, 8192]⟩
abbrev S4x8192x8x128 : Shape := ⟨4, ![4, 8192, 8, 128]⟩
abbrev S4x8x8192x128 : Shape := ⟨4, ![4, 8, 8192, 128]⟩
abbrev S32x8192x128 : Shape := ⟨3, ![32, 8192, 128]⟩
abbrev S32x128x8192 : Shape := ⟨3, ![32, 128, 8192]⟩
abbrev S32x128 : Shape := ⟨2, ![32, 128]⟩
abbrev S8192x128 : Shape := ⟨2, ![8192, 128]⟩
abbrev S1x8192x128 : Shape := ⟨3, ![1, 8192, 128]⟩
abbrev S128 : Shape := ⟨1, ![128]⟩
abbrev S1x128 : Shape := ⟨2, ![1, 128]⟩
abbrev S1x1x128 : Shape := ⟨3, ![1, 1, 128]⟩
abbrev S1x1x1 : Shape := ⟨3, ![1, 1, 1]⟩
abbrev S4x1024 : Shape := ⟨2, ![4, 1024]⟩

abbrev nBuf : Space → Nat
  | .hbm => 285
  | .vmem => 3
  | .smem => 0
  | _ => 0

abbrev hbmTy0_0 (i : Nat) : BufTy := match i % 128 with
  | 0 => ⟨S4x8192x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S1x1, .f32⟩
  | 15 => ⟨S1x1, .f32⟩
  | 16 => ⟨S1, .i32⟩
  | 17 => ⟨S_, .i32⟩
  | 18 => ⟨S1, .i32⟩
  | 19 => ⟨S_, .i32⟩
  | 20 => ⟨S4096x8192, .i64⟩
  | 21 => ⟨S4096x8192, .i64⟩
  | 22 => ⟨S_, .i64⟩
  | 23 => ⟨S4096x8192, .i64⟩
  | 24 => ⟨S4096x8192, .i64⟩
  | 25 => ⟨S_, .i64⟩
  | 26 => ⟨S4096x8192, .i64⟩
  | 27 => ⟨S4096x8192, .i64⟩
  | 28 => ⟨S4096x8192, .i64⟩
  | 29 => ⟨S_, .i64⟩
  | 30 => ⟨S4096x8192, .i64⟩
  | 31 => ⟨S4096x8192, .i64⟩
  | 32 => ⟨S4096x8192, .i32⟩
  | 33 => ⟨S4096x8192, .i32⟩
  | 34 => ⟨S_, .i32⟩
  | 35 => ⟨S_, .i32⟩
  | 36 => ⟨S_, .i32⟩
  | 37 => ⟨S4096x8192, .i32⟩
  | 38 => ⟨S4096x8192, .i32⟩
  | 39 => ⟨S4096x8192, .i32⟩
  | 40 => ⟨S4096x8192, .i32⟩
  | 41 => ⟨S4096x8192, .i32⟩
  | 42 => ⟨S_, .i32⟩
  | 43 => ⟨S4096x8192, .i32⟩
  | 44 => ⟨S4096x8192, .i32⟩
  | 45 => ⟨S_, .i32⟩
  | 46 => ⟨S4096x8192, .i32⟩
  | 47 => ⟨S4096x8192, .i32⟩
  | 48 => ⟨S4096x8192, .i32⟩
  | 49 => ⟨S4096x8192, .i32⟩
  | 50 => ⟨S4096x8192, .i32⟩
  | 51 => ⟨S_, .i32⟩
  | 52 => ⟨S4096x8192, .i32⟩
  | 53 => ⟨S4096x8192, .i32⟩
  | 54 => ⟨S_, .i32⟩
  | 55 => ⟨S4096x8192, .i32⟩
  | 56 => ⟨S4096x8192, .i32⟩
  | 57 => ⟨S4096x8192, .i32⟩
  | 58 => ⟨S4096x8192, .i32⟩
  | 59 => ⟨S4096x8192, .i32⟩
  | 60 => ⟨S_, .i32⟩
  | 61 => ⟨S4096x8192, .i32⟩
  | 62 => ⟨S4096x8192, .i32⟩
  | 63 => ⟨S_, .i32⟩
  | 64 => ⟨S4096x8192, .i32⟩
  | 65 => ⟨S4096x8192, .i32⟩
  | 66 => ⟨S4096x8192, .i32⟩
  | 67 => ⟨S4096x8192, .i32⟩
  | 68 => ⟨S4096x8192, .i32⟩
  | 69 => ⟨S_, .i32⟩
  | 70 => ⟨S4096x8192, .i32⟩
  | 71 => ⟨S4096x8192, .i32⟩
  | 72 => ⟨S_, .i32⟩
  | 73 => ⟨S4096x8192, .i32⟩
  | 74 => ⟨S4096x8192, .i32⟩
  | 75 => ⟨S4096x8192, .i32⟩
  | 76 => ⟨S4096x8192, .i32⟩
  | 77 => ⟨S4096x8192, .i32⟩
  | 78 => ⟨S4096x8192, .i32⟩
  | 79 => ⟨S4096x8192, .i32⟩
  | 80 => ⟨S4096x8192, .i32⟩
  | 81 => ⟨S_, .i32⟩
  | 82 => ⟨S4096x8192, .i32⟩
  | 83 => ⟨S4096x8192, .i32⟩
  | 84 => ⟨S4096x8192, .i32⟩
  | 85 => ⟨S_, .i32⟩
  | 86 => ⟨S4096x8192, .i32⟩
  | 87 => ⟨S4096x8192, .i32⟩
  | 88 => ⟨S_, .i32⟩
  | 89 => ⟨S4096x8192, .i32⟩
  | 90 => ⟨S4096x8192, .i32⟩
  | 91 => ⟨S4096x8192, .i32⟩
  | 92 => ⟨S4096x8192, .i32⟩
  | 93 => ⟨S4096x8192, .i32⟩
  | 94 => ⟨S_, .i32⟩
  | 95 => ⟨S4096x8192, .i32⟩
  | 96 => ⟨S4096x8192, .i32⟩
  | 97 => ⟨S_, .i32⟩
  | 98 => ⟨S4096x8192, .i32⟩
  | 99 => ⟨S4096x8192, .i32⟩
  | 100 => ⟨S4096x8192, .i32⟩
  | 101 => ⟨S4096x8192, .i32⟩
  | 102 => ⟨S4096x8192, .i32⟩
  | 103 => ⟨S_, .i32⟩
  | 104 => ⟨S4096x8192, .i32⟩
  | 105 => ⟨S4096x8192, .i32⟩
  | 106 => ⟨S_, .i32⟩
  | 107 => ⟨S4096x8192, .i32⟩
  | 108 => ⟨S4096x8192, .i32⟩
  | 109 => ⟨S4096x8192, .i32⟩
  | 110 => ⟨S4096x8192, .i32⟩
  | 111 => ⟨S4096x8192, .i32⟩
  | 112 => ⟨S_, .i32⟩
  | 113 => ⟨S4096x8192, .i32⟩
  | 114 => ⟨S4096x8192, .i32⟩
  | 115 => ⟨S_, .i32⟩
  | 116 => ⟨S4096x8192, .i32⟩
  | 117 => ⟨S4096x8192, .i32⟩
  | 118 => ⟨S4096x8192, .i32⟩
  | 119 => ⟨S4096x8192, .i32⟩
  | 120 => ⟨S4096x8192, .i32⟩
  | 121 => ⟨S4096x8192, .i32⟩
  | 122 => ⟨S4096x8192, .i32⟩
  | 123 => ⟨S4096x8192, .i32⟩
  | 124 => ⟨S_, .i32⟩
  | 125 => ⟨S4096x8192, .i32⟩
  | 126 => ⟨S4096x8192, .i32⟩
  | 127 => ⟨S4096x8192, .i32⟩
  | _ => ⟨S4x8192x1024, .f32⟩

abbrev hbmTy0_1 (i : Nat) : BufTy := match i % 128 with
  | 0 => ⟨S_, .i32⟩
  | 1 => ⟨S4096x8192, .i32⟩
  | 2 => ⟨S4096x8192, .i32⟩
  | 3 => ⟨S_, .i32⟩
  | 4 => ⟨S4096x8192, .i32⟩
  | 5 => ⟨S4096x8192, .i32⟩
  | 6 => ⟨S4096x8192, .i32⟩
  | 7 => ⟨S4096x8192, .i32⟩
  | 8 => ⟨S4096x8192, .i32⟩
  | 9 => ⟨S_, .i32⟩
  | 10 => ⟨S4096x8192, .i32⟩
  | 11 => ⟨S4096x8192, .i32⟩
  | 12 => ⟨S_, .i32⟩
  | 13 => ⟨S4096x8192, .i32⟩
  | 14 => ⟨S4096x8192, .i32⟩
  | 15 => ⟨S4096x8192, .i32⟩
  | 16 => ⟨S4096x8192, .i32⟩
  | 17 => ⟨S4096x8192, .i32⟩
  | 18 => ⟨S_, .i32⟩
  | 19 => ⟨S4096x8192, .i32⟩
  | 20 => ⟨S4096x8192, .i32⟩
  | 21 => ⟨S_, .i32⟩
  | 22 => ⟨S4096x8192, .i32⟩
  | 23 => ⟨S4096x8192, .i32⟩
  | 24 => ⟨S4096x8192, .i32⟩
  | 25 => ⟨S4096x8192, .i32⟩
  | 26 => ⟨S4096x8192, .i32⟩
  | 27 => ⟨S_, .i32⟩
  | 28 => ⟨S4096x8192, .i32⟩
  | 29 => ⟨S4096x8192, .i32⟩
  | 30 => ⟨S_, .i32⟩
  | 31 => ⟨S4096x8192, .i32⟩
  | 32 => ⟨S4096x8192, .i32⟩
  | 33 => ⟨S4096x8192, .i32⟩
  | 34 => ⟨S4096x8192, .i32⟩
  | 35 => ⟨S4096x8192, .i32⟩
  | 36 => ⟨S4096x8192, .i32⟩
  | 37 => ⟨S4096x8192, .i32⟩
  | 38 => ⟨S4096x8192, .i32⟩
  | 39 => ⟨S_, .i32⟩
  | 40 => ⟨S4096x8192, .i32⟩
  | 41 => ⟨S4096x8192, .i32⟩
  | 42 => ⟨S4096x8192, .i32⟩
  | 43 => ⟨S_, .i32⟩
  | 44 => ⟨S4096x8192, .i32⟩
  | 45 => ⟨S4096x8192, .i32⟩
  | 46 => ⟨S_, .i32⟩
  | 47 => ⟨S4096x8192, .i32⟩
  | 48 => ⟨S4096x8192, .i32⟩
  | 49 => ⟨S4096x8192, .i32⟩
  | 50 => ⟨S4096x8192, .i32⟩
  | 51 => ⟨S4096x8192, .i32⟩
  | 52 => ⟨S_, .i32⟩
  | 53 => ⟨S4096x8192, .i32⟩
  | 54 => ⟨S4096x8192, .i32⟩
  | 55 => ⟨S_, .i32⟩
  | 56 => ⟨S4096x8192, .i32⟩
  | 57 => ⟨S4096x8192, .i32⟩
  | 58 => ⟨S4096x8192, .i32⟩
  | 59 => ⟨S4096x8192, .i32⟩
  | 60 => ⟨S4096x8192, .i32⟩
  | 61 => ⟨S_, .i32⟩
  | 62 => ⟨S4096x8192, .i32⟩
  | 63 => ⟨S4096x8192, .i32⟩
  | 64 => ⟨S_, .i32⟩
  | 65 => ⟨S4096x8192, .i32⟩
  | 66 => ⟨S4096x8192, .i32⟩
  | 67 => ⟨S4096x8192, .i32⟩
  | 68 => ⟨S4096x8192, .i32⟩
  | 69 => ⟨S4096x8192, .i32⟩
  | 70 => ⟨S_, .i32⟩
  | 71 => ⟨S4096x8192, .i32⟩
  | 72 => ⟨S4096x8192, .i32⟩
  | 73 => ⟨S_, .i32⟩
  | 74 => ⟨S4096x8192, .i32⟩
  | 75 => ⟨S4096x8192, .i32⟩
  | 76 => ⟨S4096x8192, .i32⟩
  | 77 => ⟨S4096x8192, .i32⟩
  | 78 => ⟨S4096x8192, .i32⟩
  | 79 => ⟨S4096x8192, .i32⟩
  | 80 => ⟨S4096x8192, .i32⟩
  | 81 => ⟨S4096x8192, .i32⟩
  | 82 => ⟨S_, .i32⟩
  | 83 => ⟨S4096x8192, .i32⟩
  | 84 => ⟨S4096x8192, .i32⟩
  | 85 => ⟨S4096x8192, .i32⟩
  | 86 => ⟨S_, .i32⟩
  | 87 => ⟨S4096x8192, .i32⟩
  | 88 => ⟨S4096x8192, .i32⟩
  | 89 => ⟨S_, .i32⟩
  | 90 => ⟨S4096x8192, .i32⟩
  | 91 => ⟨S4096x8192, .i32⟩
  | 92 => ⟨S4096x8192, .i32⟩
  | 93 => ⟨S4096x8192, .i32⟩
  | 94 => ⟨S4096x8192, .i32⟩
  | 95 => ⟨S_, .i32⟩
  | 96 => ⟨S4096x8192, .i32⟩
  | 97 => ⟨S4096x8192, .i32⟩
  | 98 => ⟨S_, .i32⟩
  | 99 => ⟨S4096x8192, .i32⟩
  | 100 => ⟨S4096x8192, .i32⟩
  | 101 => ⟨S4096x8192, .i32⟩
  | 102 => ⟨S4096x8192, .i32⟩
  | 103 => ⟨S4096x8192, .i32⟩
  | 104 => ⟨S_, .i32⟩
  | 105 => ⟨S4096x8192, .i32⟩
  | 106 => ⟨S4096x8192, .i32⟩
  | 107 => ⟨S_, .i32⟩
  | 108 => ⟨S4096x8192, .i32⟩
  | 109 => ⟨S4096x8192, .i32⟩
  | 110 => ⟨S4096x8192, .i32⟩
  | 111 => ⟨S4096x8192, .i32⟩
  | 112 => ⟨S4096x8192, .i32⟩
  | 113 => ⟨S_, .i32⟩
  | 114 => ⟨S4096x8192, .i32⟩
  | 115 => ⟨S4096x8192, .i32⟩
  | 116 => ⟨S_, .i32⟩
  | 117 => ⟨S4096x8192, .i32⟩
  | 118 => ⟨S4096x8192, .i32⟩
  | 119 => ⟨S4096x8192, .i32⟩
  | 120 => ⟨S4096x8192, .i32⟩
  | 121 => ⟨S4096x8192, .i32⟩
  | 122 => ⟨S4096x8192, .i32⟩
  | 123 => ⟨S4096x8192, .i32⟩
  | 124 => ⟨S4096x8192, .i32⟩
  | 125 => ⟨S_, .i32⟩
  | 126 => ⟨S4096x8192, .i32⟩
  | 127 => ⟨S4096x8192, .i32⟩
  | _ => ⟨S4x8192x1024, .f32⟩

abbrev hbmTy0_2 (i : Nat) : BufTy := match i % 128 with
  | 0 => ⟨S4096x8192, .i32⟩
  | 1 => ⟨S_, .i32⟩
  | 2 => ⟨S4096x8192, .i32⟩
  | 3 => ⟨S4096x8192, .i32⟩
  | 4 => ⟨S_, .i32⟩
  | 5 => ⟨S4096x8192, .i32⟩
  | 6 => ⟨S4096x8192, .i32⟩
  | 7 => ⟨S4096x8192, .f32⟩
  | 8 => ⟨S_, .f32⟩
  | 9 => ⟨S4096x8192, .f32⟩
  | 10 => ⟨S4096x8192, .f32⟩
  | 11 => ⟨S1x1, .f32⟩
  | 12 => ⟨S4096x8192, .f32⟩
  | 13 => ⟨S4096x8192, .f32⟩
  | 14 => ⟨S4096x8192, .f32⟩
  | 15 => ⟨S4096x8192, .f32⟩
  | 16 => ⟨S4096x8192, .f32⟩
  | 17 => ⟨S4096x8192, .f32⟩
  | 18 => ⟨S4096x8192, .f32⟩
  | 19 => ⟨S4096x8192, .f32⟩
  | 20 => ⟨S4096x8192, .f32⟩
  | 21 => ⟨S4096x8192, .f32⟩
  | 22 => ⟨S4x8192x8x128, .f32⟩
  | 23 => ⟨S4x8x8192x128, .f32⟩
  | 24 => ⟨S32x8192x128, .f32⟩
  | 25 => ⟨S32x128x8192, .f32⟩
  | 26 => ⟨S32x8192x128, .f32⟩
  | 27 => ⟨S32x128, .f32⟩
  | 28 => ⟨S4x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S32x8192x128, .f32⟩
  | .local _ .vmem, ⟨1, _⟩ => ⟨S32x8192x128, .f32⟩
  | .local _ .vmem, ⟨2, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_c_0 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_call0_c_1 : Ref sig .tc := ⟨.hbm, 29, rfl⟩
abbrev main_call0_call0_v14 : Ref sig .tc := ⟨.hbm, 30, rfl⟩
abbrev main_call0_call0_v15 : Ref sig .tc := ⟨.hbm, 31, rfl⟩
abbrev main_call0_call0_v16 : Ref sig .tc := ⟨.hbm, 32, rfl⟩
abbrev main_call0_call0_v17 : Ref sig .tc := ⟨.hbm, 33, rfl⟩
abbrev main_call0_call0_call0_v0 : Ref sig .tc := ⟨.hbm, 34, rfl⟩
abbrev main_call0_call0_call0_c : Ref sig .tc := ⟨.hbm, 35, rfl⟩
abbrev main_call0_call0_call0_v1 : Ref sig .tc := ⟨.hbm, 36, rfl⟩
abbrev main_call0_call0_call0_v2 : Ref sig .tc := ⟨.hbm, 37, rfl⟩
abbrev main_call0_call0_call0_v3 : Ref sig .tc := ⟨.hbm, 38, rfl⟩
abbrev main_call0_call0_call0_v4 : Ref sig .tc := ⟨.hbm, 39, rfl⟩
abbrev main_call0_call0_call0_v5 : Ref sig .tc := ⟨.hbm, 40, rfl⟩
abbrev main_call0_call0_call0_v6 : Ref sig .tc := ⟨.hbm, 41, rfl⟩
abbrev main_call0_call0_call0_c_0 : Ref sig .tc := ⟨.hbm, 42, rfl⟩
abbrev main_call0_call0_call0_v7 : Ref sig .tc := ⟨.hbm, 43, rfl⟩
abbrev main_call0_call0_call0_v8 : Ref sig .tc := ⟨.hbm, 44, rfl⟩
abbrev main_call0_call0_call0_c_1 : Ref sig .tc := ⟨.hbm, 45, rfl⟩
abbrev main_call0_call0_call0_v9 : Ref sig .tc := ⟨.hbm, 46, rfl⟩
abbrev main_call0_call0_call0_v10 : Ref sig .tc := ⟨.hbm, 47, rfl⟩
abbrev main_call0_call0_call0_v11 : Ref sig .tc := ⟨.hbm, 48, rfl⟩
abbrev main_call0_call0_call0_v12 : Ref sig .tc := ⟨.hbm, 49, rfl⟩
abbrev main_call0_call0_call0_v13 : Ref sig .tc := ⟨.hbm, 50, rfl⟩
abbrev main_call0_call0_call0_c_2 : Ref sig .tc := ⟨.hbm, 51, rfl⟩
abbrev main_call0_call0_call0_v14 : Ref sig .tc := ⟨.hbm, 52, rfl⟩
abbrev main_call0_call0_call0_v15 : Ref sig .tc := ⟨.hbm, 53, rfl⟩
abbrev main_call0_call0_call0_c_3 : Ref sig .tc := ⟨.hbm, 54, rfl⟩
abbrev main_call0_call0_call0_v16 : Ref sig .tc := ⟨.hbm, 55, rfl⟩
abbrev main_call0_call0_call0_v17 : Ref sig .tc := ⟨.hbm, 56, rfl⟩
abbrev main_call0_call0_call0_v18 : Ref sig .tc := ⟨.hbm, 57, rfl⟩
abbrev main_call0_call0_call0_v19 : Ref sig .tc := ⟨.hbm, 58, rfl⟩
abbrev main_call0_call0_call0_v20 : Ref sig .tc := ⟨.hbm, 59, rfl⟩
abbrev main_call0_call0_call0_c_4 : Ref sig .tc := ⟨.hbm, 60, rfl⟩
abbrev main_call0_call0_call0_v21 : Ref sig .tc := ⟨.hbm, 61, rfl⟩
abbrev main_call0_call0_call0_v22 : Ref sig .tc := ⟨.hbm, 62, rfl⟩
abbrev main_call0_call0_call0_c_5 : Ref sig .tc := ⟨.hbm, 63, rfl⟩
abbrev main_call0_call0_call0_v23 : Ref sig .tc := ⟨.hbm, 64, rfl⟩
abbrev main_call0_call0_call0_v24 : Ref sig .tc := ⟨.hbm, 65, rfl⟩
abbrev main_call0_call0_call0_v25 : Ref sig .tc := ⟨.hbm, 66, rfl⟩
abbrev main_call0_call0_call0_v26 : Ref sig .tc := ⟨.hbm, 67, rfl⟩
abbrev main_call0_call0_call0_v27 : Ref sig .tc := ⟨.hbm, 68, rfl⟩
abbrev main_call0_call0_call0_c_6 : Ref sig .tc := ⟨.hbm, 69, rfl⟩
abbrev main_call0_call0_call0_v28 : Ref sig .tc := ⟨.hbm, 70, rfl⟩
abbrev main_call0_call0_call0_v29 : Ref sig .tc := ⟨.hbm, 71, rfl⟩
abbrev main_call0_call0_call0_c_7 : Ref sig .tc := ⟨.hbm, 72, rfl⟩
abbrev main_call0_call0_call0_v30 : Ref sig .tc := ⟨.hbm, 73, rfl⟩
abbrev main_call0_call0_call0_v31 : Ref sig .tc := ⟨.hbm, 74, rfl⟩
abbrev main_call0_call0_call0_v32 : Ref sig .tc := ⟨.hbm, 75, rfl⟩
abbrev main_call0_call0_call0_v33 : Ref sig .tc := ⟨.hbm, 76, rfl⟩
abbrev main_call0_call0_call0_v34 : Ref sig .tc := ⟨.hbm, 77, rfl⟩
abbrev main_call0_call0_call0_v35 : Ref sig .tc := ⟨.hbm, 78, rfl⟩
abbrev main_call0_call0_call0_v36 : Ref sig .tc := ⟨.hbm, 79, rfl⟩
abbrev main_call0_call0_call0_v37 : Ref sig .tc := ⟨.hbm, 80, rfl⟩
abbrev main_call0_call0_call0_c_8 : Ref sig .tc := ⟨.hbm, 81, rfl⟩
abbrev main_call0_call0_call0_v38 : Ref sig .tc := ⟨.hbm, 82, rfl⟩
abbrev main_call0_call0_call0_v39 : Ref sig .tc := ⟨.hbm, 83, rfl⟩
abbrev main_call0_call0_call0_v40 : Ref sig .tc := ⟨.hbm, 84, rfl⟩
abbrev main_call0_call0_call0_c_9 : Ref sig .tc := ⟨.hbm, 85, rfl⟩
abbrev main_call0_call0_call0_v41 : Ref sig .tc := ⟨.hbm, 86, rfl⟩
abbrev main_call0_call0_call0_v42 : Ref sig .tc := ⟨.hbm, 87, rfl⟩
abbrev main_call0_call0_call0_c_10 : Ref sig .tc := ⟨.hbm, 88, rfl⟩
abbrev main_call0_call0_call0_v43 : Ref sig .tc := ⟨.hbm, 89, rfl⟩
abbrev main_call0_call0_call0_v44 : Ref sig .tc := ⟨.hbm, 90, rfl⟩
abbrev main_call0_call0_call0_v45 : Ref sig .tc := ⟨.hbm, 91, rfl⟩
abbrev main_call0_call0_call0_v46 : Ref sig .tc := ⟨.hbm, 92, rfl⟩
abbrev main_call0_call0_call0_v47 : Ref sig .tc := ⟨.hbm, 93, rfl⟩
abbrev main_call0_call0_call0_c_11 : Ref sig .tc := ⟨.hbm, 94, rfl⟩
abbrev main_call0_call0_call0_v48 : Ref sig .tc := ⟨.hbm, 95, rfl⟩
abbrev main_call0_call0_call0_v49 : Ref sig .tc := ⟨.hbm, 96, rfl⟩
abbrev main_call0_call0_call0_c_12 : Ref sig .tc := ⟨.hbm, 97, rfl⟩
abbrev main_call0_call0_call0_v50 : Ref sig .tc := ⟨.hbm, 98, rfl⟩
abbrev main_call0_call0_call0_v51 : Ref sig .tc := ⟨.hbm, 99, rfl⟩
abbrev main_call0_call0_call0_v52 : Ref sig .tc := ⟨.hbm, 100, rfl⟩
abbrev main_call0_call0_call0_v53 : Ref sig .tc := ⟨.hbm, 101, rfl⟩
abbrev main_call0_call0_call0_v54 : Ref sig .tc := ⟨.hbm, 102, rfl⟩
abbrev main_call0_call0_call0_c_13 : Ref sig .tc := ⟨.hbm, 103, rfl⟩
abbrev main_call0_call0_call0_v55 : Ref sig .tc := ⟨.hbm, 104, rfl⟩
abbrev main_call0_call0_call0_v56 : Ref sig .tc := ⟨.hbm, 105, rfl⟩
abbrev main_call0_call0_call0_c_14 : Ref sig .tc := ⟨.hbm, 106, rfl⟩
abbrev main_call0_call0_call0_v57 : Ref sig .tc := ⟨.hbm, 107, rfl⟩
abbrev main_call0_call0_call0_v58 : Ref sig .tc := ⟨.hbm, 108, rfl⟩
abbrev main_call0_call0_call0_v59 : Ref sig .tc := ⟨.hbm, 109, rfl⟩
abbrev main_call0_call0_call0_v60 : Ref sig .tc := ⟨.hbm, 110, rfl⟩
abbrev main_call0_call0_call0_v61 : Ref sig .tc := ⟨.hbm, 111, rfl⟩
abbrev main_call0_call0_call0_c_15 : Ref sig .tc := ⟨.hbm, 112, rfl⟩
abbrev main_call0_call0_call0_v62 : Ref sig .tc := ⟨.hbm, 113, rfl⟩
abbrev main_call0_call0_call0_v63 : Ref sig .tc := ⟨.hbm, 114, rfl⟩
abbrev main_call0_call0_call0_c_16 : Ref sig .tc := ⟨.hbm, 115, rfl⟩
abbrev main_call0_call0_call0_v64 : Ref sig .tc := ⟨.hbm, 116, rfl⟩
abbrev main_call0_call0_call0_v65 : Ref sig .tc := ⟨.hbm, 117, rfl⟩
abbrev main_call0_call0_call0_v66 : Ref sig .tc := ⟨.hbm, 118, rfl⟩
abbrev main_call0_call0_call0_v67 : Ref sig .tc := ⟨.hbm, 119, rfl⟩
abbrev main_call0_call0_call0_v68 : Ref sig .tc := ⟨.hbm, 120, rfl⟩
abbrev main_call0_call0_call0_v69 : Ref sig .tc := ⟨.hbm, 121, rfl⟩
abbrev main_call0_call0_call0_v70 : Ref sig .tc := ⟨.hbm, 122, rfl⟩
abbrev main_call0_call0_call0_v71 : Ref sig .tc := ⟨.hbm, 123, rfl⟩
abbrev main_call0_call0_call0_c_17 : Ref sig .tc := ⟨.hbm, 124, rfl⟩
abbrev main_call0_call0_call0_v72 : Ref sig .tc := ⟨.hbm, 125, rfl⟩
abbrev main_call0_call0_call0_v73 : Ref sig .tc := ⟨.hbm, 126, rfl⟩
abbrev main_call0_call0_call0_v74 : Ref sig .tc := ⟨.hbm, 127, rfl⟩
abbrev main_call0_call0_call0_c_18 : Ref sig .tc := ⟨.hbm, 128, rfl⟩
abbrev main_call0_call0_call0_v75 : Ref sig .tc := ⟨.hbm, 129, rfl⟩
abbrev main_call0_call0_call0_v76 : Ref sig .tc := ⟨.hbm, 130, rfl⟩
abbrev main_call0_call0_call0_c_19 : Ref sig .tc := ⟨.hbm, 131, rfl⟩
abbrev main_call0_call0_call0_v77 : Ref sig .tc := ⟨.hbm, 132, rfl⟩
abbrev main_call0_call0_call0_v78 : Ref sig .tc := ⟨.hbm, 133, rfl⟩
abbrev main_call0_call0_call0_v79 : Ref sig .tc := ⟨.hbm, 134, rfl⟩
abbrev main_call0_call0_call0_v80 : Ref sig .tc := ⟨.hbm, 135, rfl⟩
abbrev main_call0_call0_call0_v81 : Ref sig .tc := ⟨.hbm, 136, rfl⟩
abbrev main_call0_call0_call0_c_20 : Ref sig .tc := ⟨.hbm, 137, rfl⟩
abbrev main_call0_call0_call0_v82 : Ref sig .tc := ⟨.hbm, 138, rfl⟩
abbrev main_call0_call0_call0_v83 : Ref sig .tc := ⟨.hbm, 139, rfl⟩
abbrev main_call0_call0_call0_c_21 : Ref sig .tc := ⟨.hbm, 140, rfl⟩
abbrev main_call0_call0_call0_v84 : Ref sig .tc := ⟨.hbm, 141, rfl⟩
abbrev main_call0_call0_call0_v85 : Ref sig .tc := ⟨.hbm, 142, rfl⟩
abbrev main_call0_call0_call0_v86 : Ref sig .tc := ⟨.hbm, 143, rfl⟩
abbrev main_call0_call0_call0_v87 : Ref sig .tc := ⟨.hbm, 144, rfl⟩
abbrev main_call0_call0_call0_v88 : Ref sig .tc := ⟨.hbm, 145, rfl⟩
abbrev main_call0_call0_call0_c_22 : Ref sig .tc := ⟨.hbm, 146, rfl⟩
abbrev main_call0_call0_call0_v89 : Ref sig .tc := ⟨.hbm, 147, rfl⟩
abbrev main_call0_call0_call0_v90 : Ref sig .tc := ⟨.hbm, 148, rfl⟩
abbrev main_call0_call0_call0_c_23 : Ref sig .tc := ⟨.hbm, 149, rfl⟩
abbrev main_call0_call0_call0_v91 : Ref sig .tc := ⟨.hbm, 150, rfl⟩
abbrev main_call0_call0_call0_v92 : Ref sig .tc := ⟨.hbm, 151, rfl⟩
abbrev main_call0_call0_call0_v93 : Ref sig .tc := ⟨.hbm, 152, rfl⟩
abbrev main_call0_call0_call0_v94 : Ref sig .tc := ⟨.hbm, 153, rfl⟩
abbrev main_call0_call0_call0_v95 : Ref sig .tc := ⟨.hbm, 154, rfl⟩
abbrev main_call0_call0_call0_c_24 : Ref sig .tc := ⟨.hbm, 155, rfl⟩
abbrev main_call0_call0_call0_v96 : Ref sig .tc := ⟨.hbm, 156, rfl⟩
abbrev main_call0_call0_call0_v97 : Ref sig .tc := ⟨.hbm, 157, rfl⟩
abbrev main_call0_call0_call0_c_25 : Ref sig .tc := ⟨.hbm, 158, rfl⟩
abbrev main_call0_call0_call0_v98 : Ref sig .tc := ⟨.hbm, 159, rfl⟩
abbrev main_call0_call0_call0_v99 : Ref sig .tc := ⟨.hbm, 160, rfl⟩
abbrev main_call0_call0_call0_v100 : Ref sig .tc := ⟨.hbm, 161, rfl⟩
abbrev main_call0_call0_call0_v101 : Ref sig .tc := ⟨.hbm, 162, rfl⟩
abbrev main_call0_call0_call0_v102 : Ref sig .tc := ⟨.hbm, 163, rfl⟩
abbrev main_call0_call0_call0_v103 : Ref sig .tc := ⟨.hbm, 164, rfl⟩
abbrev main_call0_call0_call0_v104 : Ref sig .tc := ⟨.hbm, 165, rfl⟩
abbrev main_call0_call0_call0_v105 : Ref sig .tc := ⟨.hbm, 166, rfl⟩
abbrev main_call0_call0_call0_c_26 : Ref sig .tc := ⟨.hbm, 167, rfl⟩
abbrev main_call0_call0_call0_v106 : Ref sig .tc := ⟨.hbm, 168, rfl⟩
abbrev main_call0_call0_call0_v107 : Ref sig .tc := ⟨.hbm, 169, rfl⟩
abbrev main_call0_call0_call0_v108 : Ref sig .tc := ⟨.hbm, 170, rfl⟩
abbrev main_call0_call0_call0_c_27 : Ref sig .tc := ⟨.hbm, 171, rfl⟩
abbrev main_call0_call0_call0_v109 : Ref sig .tc := ⟨.hbm, 172, rfl⟩
abbrev main_call0_call0_call0_v110 : Ref sig .tc := ⟨.hbm, 173, rfl⟩
abbrev main_call0_call0_call0_c_28 : Ref sig .tc := ⟨.hbm, 174, rfl⟩
abbrev main_call0_call0_call0_v111 : Ref sig .tc := ⟨.hbm, 175, rfl⟩
abbrev main_call0_call0_call0_v112 : Ref sig .tc := ⟨.hbm, 176, rfl⟩
abbrev main_call0_call0_call0_v113 : Ref sig .tc := ⟨.hbm, 177, rfl⟩
abbrev main_call0_call0_call0_v114 : Ref sig .tc := ⟨.hbm, 178, rfl⟩
abbrev main_call0_call0_call0_v115 : Ref sig .tc := ⟨.hbm, 179, rfl⟩
abbrev main_call0_call0_call0_c_29 : Ref sig .tc := ⟨.hbm, 180, rfl⟩
abbrev main_call0_call0_call0_v116 : Ref sig .tc := ⟨.hbm, 181, rfl⟩
abbrev main_call0_call0_call0_v117 : Ref sig .tc := ⟨.hbm, 182, rfl⟩
abbrev main_call0_call0_call0_c_30 : Ref sig .tc := ⟨.hbm, 183, rfl⟩
abbrev main_call0_call0_call0_v118 : Ref sig .tc := ⟨.hbm, 184, rfl⟩
abbrev main_call0_call0_call0_v119 : Ref sig .tc := ⟨.hbm, 185, rfl⟩
abbrev main_call0_call0_call0_v120 : Ref sig .tc := ⟨.hbm, 186, rfl⟩
abbrev main_call0_call0_call0_v121 : Ref sig .tc := ⟨.hbm, 187, rfl⟩
abbrev main_call0_call0_call0_v122 : Ref sig .tc := ⟨.hbm, 188, rfl⟩
abbrev main_call0_call0_call0_c_31 : Ref sig .tc := ⟨.hbm, 189, rfl⟩
abbrev main_call0_call0_call0_v123 : Ref sig .tc := ⟨.hbm, 190, rfl⟩
abbrev main_call0_call0_call0_v124 : Ref sig .tc := ⟨.hbm, 191, rfl⟩
abbrev main_call0_call0_call0_c_32 : Ref sig .tc := ⟨.hbm, 192, rfl⟩
abbrev main_call0_call0_call0_v125 : Ref sig .tc := ⟨.hbm, 193, rfl⟩
abbrev main_call0_call0_call0_v126 : Ref sig .tc := ⟨.hbm, 194, rfl⟩
abbrev main_call0_call0_call0_v127 : Ref sig .tc := ⟨.hbm, 195, rfl⟩
abbrev main_call0_call0_call0_v128 : Ref sig .tc := ⟨.hbm, 196, rfl⟩
abbrev main_call0_call0_call0_v129 : Ref sig .tc := ⟨.hbm, 197, rfl⟩
abbrev main_call0_call0_call0_c_33 : Ref sig .tc := ⟨.hbm, 198, rfl⟩
abbrev main_call0_call0_call0_v130 : Ref sig .tc := ⟨.hbm, 199, rfl⟩
abbrev main_call0_call0_call0_v131 : Ref sig .tc := ⟨.hbm, 200, rfl⟩
abbrev main_call0_call0_call0_c_34 : Ref sig .tc := ⟨.hbm, 201, rfl⟩
abbrev main_call0_call0_call0_v132 : Ref sig .tc := ⟨.hbm, 202, rfl⟩
abbrev main_call0_call0_call0_v133 : Ref sig .tc := ⟨.hbm, 203, rfl⟩
abbrev main_call0_call0_call0_v134 : Ref sig .tc := ⟨.hbm, 204, rfl⟩
abbrev main_call0_call0_call0_v135 : Ref sig .tc := ⟨.hbm, 205, rfl⟩
abbrev main_call0_call0_call0_v136 : Ref sig .tc := ⟨.hbm, 206, rfl⟩
abbrev main_call0_call0_call0_v137 : Ref sig .tc := ⟨.hbm, 207, rfl⟩
abbrev main_call0_call0_call0_v138 : Ref sig .tc := ⟨.hbm, 208, rfl⟩
abbrev main_call0_call0_call0_v139 : Ref sig .tc := ⟨.hbm, 209, rfl⟩
abbrev main_call0_call0_call0_c_35 : Ref sig .tc := ⟨.hbm, 210, rfl⟩
abbrev main_call0_call0_call0_v140 : Ref sig .tc := ⟨.hbm, 211, rfl⟩
abbrev main_call0_call0_call0_v141 : Ref sig .tc := ⟨.hbm, 212, rfl⟩
abbrev main_call0_call0_call0_v142 : Ref sig .tc := ⟨.hbm, 213, rfl⟩
abbrev main_call0_call0_call0_c_36 : Ref sig .tc := ⟨.hbm, 214, rfl⟩
abbrev main_call0_call0_call0_v143 : Ref sig .tc := ⟨.hbm, 215, rfl⟩
abbrev main_call0_call0_call0_v144 : Ref sig .tc := ⟨.hbm, 216, rfl⟩
abbrev main_call0_call0_call0_c_37 : Ref sig .tc := ⟨.hbm, 217, rfl⟩
abbrev main_call0_call0_call0_v145 : Ref sig .tc := ⟨.hbm, 218, rfl⟩
abbrev main_call0_call0_call0_v146 : Ref sig .tc := ⟨.hbm, 219, rfl⟩
abbrev main_call0_call0_call0_v147 : Ref sig .tc := ⟨.hbm, 220, rfl⟩
abbrev main_call0_call0_call0_v148 : Ref sig .tc := ⟨.hbm, 221, rfl⟩
abbrev main_call0_call0_call0_v149 : Ref sig .tc := ⟨.hbm, 222, rfl⟩
abbrev main_call0_call0_call0_c_38 : Ref sig .tc := ⟨.hbm, 223, rfl⟩
abbrev main_call0_call0_call0_v150 : Ref sig .tc := ⟨.hbm, 224, rfl⟩
abbrev main_call0_call0_call0_v151 : Ref sig .tc := ⟨.hbm, 225, rfl⟩
abbrev main_call0_call0_call0_c_39 : Ref sig .tc := ⟨.hbm, 226, rfl⟩
abbrev main_call0_call0_call0_v152 : Ref sig .tc := ⟨.hbm, 227, rfl⟩
abbrev main_call0_call0_call0_v153 : Ref sig .tc := ⟨.hbm, 228, rfl⟩
abbrev main_call0_call0_call0_v154 : Ref sig .tc := ⟨.hbm, 229, rfl⟩
abbrev main_call0_call0_call0_v155 : Ref sig .tc := ⟨.hbm, 230, rfl⟩
abbrev main_call0_call0_call0_v156 : Ref sig .tc := ⟨.hbm, 231, rfl⟩
abbrev main_call0_call0_call0_c_40 : Ref sig .tc := ⟨.hbm, 232, rfl⟩
abbrev main_call0_call0_call0_v157 : Ref sig .tc := ⟨.hbm, 233, rfl⟩
abbrev main_call0_call0_call0_v158 : Ref sig .tc := ⟨.hbm, 234, rfl⟩
abbrev main_call0_call0_call0_c_41 : Ref sig .tc := ⟨.hbm, 235, rfl⟩
abbrev main_call0_call0_call0_v159 : Ref sig .tc := ⟨.hbm, 236, rfl⟩
abbrev main_call0_call0_call0_v160 : Ref sig .tc := ⟨.hbm, 237, rfl⟩
abbrev main_call0_call0_call0_v161 : Ref sig .tc := ⟨.hbm, 238, rfl⟩
abbrev main_call0_call0_call0_v162 : Ref sig .tc := ⟨.hbm, 239, rfl⟩
abbrev main_call0_call0_call0_v163 : Ref sig .tc := ⟨.hbm, 240, rfl⟩
abbrev main_call0_call0_call0_c_42 : Ref sig .tc := ⟨.hbm, 241, rfl⟩
abbrev main_call0_call0_call0_v164 : Ref sig .tc := ⟨.hbm, 242, rfl⟩
abbrev main_call0_call0_call0_v165 : Ref sig .tc := ⟨.hbm, 243, rfl⟩
abbrev main_call0_call0_call0_c_43 : Ref sig .tc := ⟨.hbm, 244, rfl⟩
abbrev main_call0_call0_call0_v166 : Ref sig .tc := ⟨.hbm, 245, rfl⟩
abbrev main_call0_call0_call0_v167 : Ref sig .tc := ⟨.hbm, 246, rfl⟩
abbrev main_call0_call0_call0_v168 : Ref sig .tc := ⟨.hbm, 247, rfl⟩
abbrev main_call0_call0_call0_v169 : Ref sig .tc := ⟨.hbm, 248, rfl⟩
abbrev main_call0_call0_call0_v170 : Ref sig .tc := ⟨.hbm, 249, rfl⟩
abbrev main_call0_call0_v18_0 : Ref sig .tc := ⟨.hbm, 250, rfl⟩
abbrev main_call0_call0_call0_v172 : Ref sig .tc := ⟨.hbm, 251, rfl⟩
abbrev main_call0_call0_call0_v173 : Ref sig .tc := ⟨.hbm, 252, rfl⟩
abbrev main_call0_call0_call0_c_44 : Ref sig .tc := ⟨.hbm, 253, rfl⟩
abbrev main_call0_call0_call0_v174 : Ref sig .tc := ⟨.hbm, 254, rfl⟩
abbrev main_call0_call0_v18_1 : Ref sig .tc := ⟨.hbm, 255, rfl⟩
abbrev main_call0_call0_v19 : Ref sig .tc := ⟨.hbm, 256, rfl⟩
abbrev main_call0_call0_c_2 : Ref sig .tc := ⟨.hbm, 257, rfl⟩
abbrev main_call0_call0_v20 : Ref sig .tc := ⟨.hbm, 258, rfl⟩
abbrev main_call0_call0_v21 : Ref sig .tc := ⟨.hbm, 259, rfl⟩
abbrev main_call0_call0_c_3 : Ref sig .tc := ⟨.hbm, 260, rfl⟩
abbrev main_call0_call0_v22 : Ref sig .tc := ⟨.hbm, 261, rfl⟩
abbrev main_call0_call0_v23 : Ref sig .tc := ⟨.hbm, 262, rfl⟩
abbrev main_call0_call0_v24 : Ref sig .tc := ⟨.hbm, 263, rfl⟩
abbrev main_call0_call0_cst : Ref sig .tc := ⟨.hbm, 264, rfl⟩
abbrev main_call0_call0_v25 : Ref sig .tc := ⟨.hbm, 265, rfl⟩
abbrev main_call0_call0_v26 : Ref sig .tc := ⟨.hbm, 266, rfl⟩
abbrev main_call0_call0_v27 : Ref sig .tc := ⟨.hbm, 267, rfl⟩
abbrev main_call0_call0_v28 : Ref sig .tc := ⟨.hbm, 268, rfl⟩
abbrev main_call0_call0_v29 : Ref sig .tc := ⟨.hbm, 269, rfl⟩
abbrev main_call0_call0_v30 : Ref sig .tc := ⟨.hbm, 270, rfl⟩
abbrev main_call0_call0_v31 : Ref sig .tc := ⟨.hbm, 271, rfl⟩
abbrev main_call0_call0_v32 : Ref sig .tc := ⟨.hbm, 272, rfl⟩
abbrev main_call0_v0 : Ref sig .tc := ⟨.hbm, 273, rfl⟩
abbrev main_call0_v1 : Ref sig .tc := ⟨.hbm, 274, rfl⟩
abbrev main_call0_v2 : Ref sig .tc := ⟨.hbm, 275, rfl⟩
abbrev main_call0_v3 : Ref sig .tc := ⟨.hbm, 276, rfl⟩
abbrev main_v7 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev main_v13 : Ref sig .tc := ⟨.hbm, 283, rfl⟩
abbrev main_v14 : Ref sig .tc := ⟨.hbm, 284, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v6 : Index := Scalar.indexCast arg3
  let c0_2 : Index := 0#32
  let c0_3 : Index := 0#32
  ![v6.toNat, 0, 0]
@[reducible] def k0_t2_loop : Scf.Loop 32 :=
  let c0_i32_11 : BitVec 32 := 0#32
  let c32_i32_12 : BitVec 32 := 32#32
  let v35 : BitVec 32 := Scalar.addi c0_i32_11 c32_i32_12
  let c1_i32_13 : BitVec 32 := 1#32
  ⟨c0_i32_11, v35, c1_i32_13⟩
@[reducible] def k0_t3_loop : Scf.Loop 32 :=
  let c0_i32_23 : BitVec 32 := 0#32
  let c32_i32_24 : BitVec 32 := 32#32
  let v67 : BitVec 32 := Scalar.addi c0_i32_23 c32_i32_24
  let c1_i32_25 : BitVec 32 := 1#32
  ⟨c0_i32_23, v67, c1_i32_25⟩
abbrev stage0_0 : Fin 1 → Memref sig .tc .vmem S32x8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel2.lean ====
abbrev S4x1024 : Shape := ⟨2, ![4, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 6
  | .vmem => 4
  | .smem => 0
  | _ => 0

abbrev bufTy : (tb : Table) → Fin (tcTables nBuf tb) → BufTy
  | .hbm, ⟨0, _⟩ => ⟨S4x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S4x1024, .f32⟩
  | .local _ .vmem, ⟨0, _⟩ => ⟨S4x1024, .f32⟩
  | .local _ .vmem, ⟨1, _⟩ => ⟨S1024x1024, .f32⟩
  | .local _ .vmem, ⟨2, _⟩ => ⟨S1x1024, .f32⟩
  | .local _ .vmem, ⟨3, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference2Ideal.lean ====
abbrev S4x1024 : Shape := ⟨2, ![4, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S4x1024, .f32⟩
  | .hbm, ⟨5, _⟩ => ⟨S1x1024, .f32⟩
  | .hbm, ⟨6, _⟩ => ⟨S4x1024, .f32⟩
  | .hbm, ⟨7, _⟩ => ⟨S4x1024, .f32⟩
  | .hbm, ⟨8, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Linear.lean ====
/-
  The linear call: its run with its value, and the comparison with the plain `tanh (pooled · Wᵀ + b)`.
-/
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.KernelVsHost
public import Idealize.ShloMosaic.Lib.ValueIdxCore
public import Idealize.ShloMosaic.Lib.Quiescent

@[expose] public section

noncomputable section

namespace Cert.Proof.Linear

open Idealize.ShloMosaic Idealize.SL.Sem Cert.Kernel2Ideal
open Cert.Kernel2Ideal.Gen Idealize.ShloMosaic.TcCoe Idealize.ShloMosaic.ValueIdx
open Idealize.ShloMosaic.Pipeline (Dat Cfg Window)

variable (m : (ℓ : Loc nD τ sig) → Buf (Elt Ideal) ℓ) (ρ : Dev nD → PrngReg)

/-- The result of the linear call as one function of the pooled sums, the weights and the bias. -/
def value (x : FVec Ideal S4x1024 .f32) (w : FVec Ideal S1024x1024 .f32) (b : FVec Ideal S1024 .f32) :
    FVec Ideal S4x1024 .f32 :=
  k0_pay1 (F := Ideal) x (transpose S1024x1024 [1, 0] w transposes_S1024x1024_S1024x1024_1_0)
    (shapeCast S1x1024 b shapeCasts_S1024_S1x1024)

/-- The call's one grid point. -/
def t₀ : Fin cfg0.N := ⟨0, by decide⟩

/-- The whole-buffer loads read the buffers, and the one store leaves its payload. -/
theorem out_eq (x0 : Vec Ideal S4x1024 .f32) (x1 : Vec Ideal S1024x1024 .f32) (x2 : Vec Ideal S1x1024 .f32) :
    out0_3 (F := Ideal) x0 x1 x2 = k0_pay1 x0 x1 x2 := by
  have hz0 : (![0, 0] : Fin S4x1024.rank → Nat) = fun _ => 0 := funext fun a => by fin_cases a <;> rfl
  have hz1 : (![0, 0] : Fin S1024x1024.rank → Nat) = fun _ => 0 := funext fun a => by fin_cases a <;> rfl
  have hz2 : (![0, 0] : Fin S1x1024.rank → Nat) = fun _ => 0 := funext fun a => by fin_cases a <;> rfl
  unfold out0_3
  rw [View.canon_unit_zero hz0, View.ld_unit_zero hz0, View.ld_unit_zero hz1, View.ld_unit_zero hz2]

/-- The second operand of the call is the transposed weights. -/
theorem entry_weights (c : Dev nD) : V m c main_v0
    = transpose S1024x1024 [1, 0] (m ((c : Thread nD τ).loc main_arg1)) transposes_S1024x1024_S1024x1024_1_0 := by
  unfold V hostOps0
  after_results

/-- The third operand of the call is the bias as one row. -/
theorem entry_bias (c : Dev nD) : V m c main_v1
    = shapeCast S1x1024 (m ((c : Thread nD τ).loc main_arg2)) shapeCasts_S1024_S1x1024 := by
  unfold V hostOps0
  after_results
  rfl

/-- The result array after the run is `value` of the arguments as launched. -/
theorem final_value (c : Dev nD) :
    (dats (F := Ideal) m 0 c).arrAt (3 : Fin 4) cfg0.N
      = value (m ((c : Thread nD τ).loc main_arg0)) (m ((c : Thread nD τ).loc main_arg1))
          (m ((c : Thread nD τ).loc main_arg2)) := by
  have ho := Cert.Kernel2Ideal.Value.blocks3 (F := Ideal) m c t₀ (by decide)
  have hz3 : (fun a => (win0_3.index t₀) a * main_v2.ty.shape.size a) = fun _ => 0 :=
    funext fun a => by fin_cases a <;> decide
  have hr3 := fun f => Memref.read_access_unit_zero (Elt Ideal) main_v2 hz3 (fun a => by fin_cases a <;> decide) f
  have hz0 : (fun a => (win0_0.index t₀) a * main_arg0.ty.shape.size a) = fun _ => 0 :=
    funext fun a => by fin_cases a <;> decide
  have hr0 := fun f => Memref.read_access_unit_zero (Elt Ideal) main_arg0 hz0 (fun a => by fin_cases a <;> decide) f
  have hz1 : (fun a => (win0_1.index t₀) a * main_v0.ty.shape.size a) = fun _ => 0 :=
    funext fun a => by fin_cases a <;> decide
  have hr1 := fun f => Memref.read_access_unit_zero (Elt Ideal) main_v0 hz1 (fun a => by fin_cases a <;> decide) f
  have hz2 : (fun a => (win0_2.index t₀) a * main_v1.ty.shape.size a) = fun _ => 0 :=
    funext fun a => by fin_cases a <;> decide
  have hr2 := fun f => Memref.read_access_unit_zero (Elt Ideal) main_v1 hz2 (fun a => by fin_cases a <;> decide) f
  rw [hr3] at ho
  rw [ho]
  show (cfg0.win (3 : Fin 4)).cut _ ((dats (F := Ideal) m 0 c).after 3 t₀) = _
  rw [after0_3, out_eq]
  unfold iblk
  rw [hr0, hr1, hr2]
  unfold value
  rw [← entry_weights, ← entry_bias, ← V_main_arg0 m c]
  rfl

/-- At the ideal values the call's function is the plain one: the product, plus the bias along every row, then `tanh`. -/
theorem value_eq (x : FVec Ideal S4x1024 .f32) (w : FVec Ideal S1024x1024 .f32) (b : FVec Ideal S1024 .f32) :
    value x w b = Host.tanh (addf
      (Host.dotGeneral Cert.Reference2Ideal.dot_S4x1024_S1024x1024_S4x1024_1_0_0_1_n_n none x
        (transpose Cert.Reference2Ideal.S1024x1024 [1, 0] w Cert.Reference2Ideal.Gen.transposes_S1024x1024_S1024x1024_1_0))
      (broadcastInDim Cert.Reference2Ideal.S4x1024 ![0, 1] Cert.Reference2Ideal.Gen.bcast_S1x1024_S4x1024_0_1
        (broadcastInDim Cert.Reference2Ideal.S1x1024 ![1] Cert.Reference2Ideal.Gen.bcast_S1024_S1x1024_1 b))) := by
  unfold value k0_pay1
  have hx : (truncf .bf16 x bitsLt_bf16_f32 : FVec Ideal S4x1024 .bf16) = x := rfl
  have e := matmul_zero_eq_dotGeneral (φ₁ := .bf16) (φ₂ := .bf16)
    dot_S4x1024_S1024x1024_S4x1024_1_0_0_1_n_n none (truncf .bf16 x bitsLt_bf16_f32)
    (truncf .bf16 (transpose S1024x1024 [1, 0] w transposes_S1024x1024_S1024x1024_1_0) bitsLt_bf16_f32)
  have hb : broadcastTo S4x1024 (shapeCast S1x1024 b shapeCasts_S1024_S1x1024) broadcasts_S1x1024_S4x1024
      = broadcastInDim Cert.Reference2Ideal.S4x1024 ![0, 1] Cert.Reference2Ideal.Gen.bcast_S1x1024_S4x1024_0_1
        (broadcastInDim Cert.Reference2Ideal.S1x1024 ![1] Cert.Reference2Ideal.Gen.bcast_S1024_S1x1024_1 b) := by
    refine (broadcastTo_row_eq_broadcastInDim (m := 4) (n := 1024) b shapeCasts_S1024_S1x1024
      broadcasts_S1x1024_S4x1024 (by decide)).trans ?_
    funext i
    obtain ⟨r, t, rfl⟩ : ∃ (r : Fin 4) (t : Fin 1024), i = ix2 r t := ⟨i 0, i 1, eq_ix2 i⟩
    refine Eq.trans ?_ (broadcastInDim_oneRow_apply (m := 4) (n := 1024) _ _ r t).symm
    refine (broadcastInDim_apply ![1] _ b (ix2 r t) (ix1 t) ?_).trans
      (broadcastInDim_apply ![1] _ b (ix2 (0 : Fin 1) t) (ix1 t) ?_).symm
    all_goals
      intro a
      fin_cases a
      rfl
  simp only [shapeCast_self]
  rw [e, hb]
  rfl

/-- The plain reference's frame: the arguments end unchanged and every counter at zero. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The linear call and its plain reference end with the same ideal values from the same arguments. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => value (m ((c.tc : Thread _ _).loc main_arg0)) (m ((c.tc : Thread _ _).loc main_arg1))
    (m ((c.tc : Thread _ _).loc main_arg2)), ?_, ?_⟩
  · exact (θ_run defs _ _).mono (fun r h c => ⟨(h c).1.trans (final_value m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    rw [(hargs c).1, (hargs c).2.1, (hargs c).2.2]
    exact (value_eq _ _ _).symm

end Cert.Proof.Linear

end
-- ==== Proof.RefBody.lean ====
/-
  The reference's selection program: what its one gridless call computes, as a pure function of its two whole inputs, the
  body's triple (the loop over the 32 groups by an invariant), the run and the frame.
-/
module

public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import Idealize.ShloMosaic.Lib.Claim
public import Idealize.ShloMosaic.Lib.Pipeline.Value

@[expose] public section

set_option maxRecDepth 16384

noncomputable section

namespace Cert.Proof.RefBody

open Cert.Reference Cert.Reference.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## What the body computes -/

/-- The row numbers of a group: every lane counts 0 to 8191. -/
def rows : IVec S8192x128 32 := iota .tc S8192x128 32 [0] iota_S8192x128_d0_w32

/-- The ranks after the 32 picks: pick `t` gives rank `t` to the first row of the greatest score not yet picked. -/
def picks (x y : Vec F S1x8192x128 .f32) : IVec S8192x128 32 :=
  Scf.fold (fun (t : Fin k0_t2_loop.trips) a => k0_pay11 rows 2147483648#32 x y t a) k0_pay10

/-- The sum of one group's sampled weights: the sum above the 32nd score, then the ties one by one. -/
def total (x y : Vec F S1x8192x128 .f32) : FVec F S1x128 .f32 :=
  Scf.fold (fun (t : Fin k0_t3_loop.trips) a => k0_pay4 (k0_pay8 x) (k0_pay9 x y) (picks x y) (k0_pay12 x y) t a)
    (k0_pay3 (k0_pay8 x) (k0_pay9 x y) (picks x y) (k0_pay12 x y))

/-- Group `k`'s slab of a whole input. -/
def slab (X : Vec F S32x8192x128 .f32) (k : Fin k0_t1_loop.trips) : Vec F S1x8192x128 .f32 :=
  View.ld X (Rect.unit (s := S32x8192x128) (k0_off1 k) S1x8192x128.size (k0_off1_inb k))

/-- The result's rows after the first `k` groups. -/
def rowsUpTo (X Y : Vec F S32x8192x128 .f32) : ℕ → FVec F S32x128 .f32
  | 0 => k0_pay1
  | k + 1 => if h : k < k0_t1_loop.trips then
      k0_pay5 (rowsUpTo X Y k) (Scf.iv 0#32 1#32 k) (k0_pay7 (slab X ⟨k, h⟩)) (total (slab X ⟨k, h⟩) (slab Y ⟨k, h⟩))
    else rowsUpTo X Y k

/-- One group's step. -/
theorem rowsUpTo_succ (X Y : Vec F S32x8192x128 .f32) (k : Fin k0_t1_loop.trips) :
    rowsUpTo X Y (k.val + 1) = k0_pay5 (rowsUpTo X Y k) (Scf.iv 0#32 1#32 k) (k0_pay7 (slab X k)) (total (slab X k) (slab Y k)) := by
  rw [rowsUpTo, dif_pos k.isLt]

/-- The one store covers the result's buffer. -/
theorem cover (p : Vec F S32x128 .f32) (y : S32x128.Idx) :
    ∃ pc ∈ ([⟨Rect.unit (s := S32x128) ![0, 0] S32x128.size inb_S32x128_S32x128_0_0, p⟩] : List (View.Piece (Elt F) S32x128 .f32)), y ∈ pc.1.set :=
  View.cover_of_tiled [⟨Rect.unit (s := S32x128) ![0, 0] S32x128.size inb_S32x128_S32x128_0_0, p⟩] S32x128.size (by rfl) y

/-! ## The body's triple -/

section Body

variable (c : Dev nD)
  (arg0 : Memref sig .tc .vmem S32x8192x128 .f32) (harg0 : arg0.IsWhole)
  (arg1 : Memref sig .tc .vmem S32x8192x128 .f32) (harg1 : arg1.IsWhole)
  (arg2 : Memref sig .tc .vmem S32x128 .f32) (harg2 : arg2.IsWhole)

set_option warn.classDefReducibility false in
set_option maxHeartbeats 1000000 in
/-- The loop over the groups: before group `k` the carried rows are those of the groups before `k`, the inputs as they were. -/
@[sl_loop] def loopInv (f0 : Buf (Elt F) (arg0.view.loc (c : Thread nD τ))) (f1 : Buf (Elt F) (arg1.view.loc (c : Thread nD τ))) :
    LoopInvTy_k0_t1 (F := F) Unit ℕ (UR sig nD τ) ℕ Variants.none c none Set.univ arg0 harg0 arg1 harg1 arg2 harg2 rows k0_pay1 where
  inv k acc := iprop(⌜acc = rowsUpTo (arg0.view.read (Elt F) f0) (arg1.view.read (Elt F) f1) k⌝
    ∗ (arg0.view.loc (c : Thread nD τ) ↦[arg0.view.set]{fullShare} f0) ∗ (arg1.view.loc (c : Thread nD τ) ↦[arg1.view.set]{fullShare} f1))
  step k acc := by
    unfold k0_t1_body
    iintro ⟨%h, H0, H1⟩
    subst h
    sl_exec
    sl_step
    isplitr
    · ipureintro; exact (rowsUpTo_succ _ _ k).symm
    isplitl [H0]; · iexact H0
    iexact H1

set_option maxHeartbeats 1000000 in
/-- The body on whole staging memrefs: the inputs stay, the result's buffer ends at the rows of all 32 groups. -/
theorem sound_kernel (X Y : Vec F S32x8192x128 .f32) (K : PUnit → sProp 𝕄) :
    iprop(owns (c : Thread nD τ) arg0 fullShare X ∗ owns (c : Thread nD τ) arg1 fullShare Y ∗ (∃ d, owns (c : Thread nD τ) arg2 fullShare d)
        ∗ (iprop(owns (c : Thread nD τ) arg0 fullShare X ∗ owns (c : Thread nD τ) arg1 fullShare Y
          ∗ owns (c : Thread nD τ) arg2 fullShare (rowsUpTo X Y 32)) -∗ K ⟨⟩))
      ⊢ wp frame (wpE (defs₀ (F := F)) Variants.none c none) Set.univ (cc0__reference_body arg0 harg0 arg1 harg1 arg2 harg2) K := by
  simp only [cc0__reference_body_eq_skeleton]; unfold cc0__reference_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ?_
  exact (View.canon_unit_zero (funext fun a => by fin_cases a <;> rfl) _ _).trans rfl

end Body

/-! ## The pipeline's proof data, the run and the frame -/

section Run

variable (m : (ℓ : Loc nD τ sig) → Buf (Elt F) ℓ) (ρ : Dev nD → PrngReg)

/-- The proof data: the arrays as the region finds them, the inputs left in place, the result at the rows of all groups. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsUpTo (iblk m c 0 t) (iblk m c 1 t) 32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = rowsUpTo (iblk m c 0 t) (iblk m c 1 t) 32 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at the call's point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every weakly fair execution terminates, with the arrays at the proof data's contents, every other buffer at what the
    host lines leave, and every counter at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument ends as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run m ρ)))
    ((θ_run defs _ _).mono (fun _ h => h.2) (run m ρ))

end Run

end Cert.Proof.RefBody

end
-- ==== Proof.KerTies.lean ====
/-
  The kernel's selection program: what one grid point's body computes, as a pure function of its two input blocks; the
  tie loop's specification, the body's triple, the run and the frame.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.KerBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The tie loop's carried values: the sum so far, the last row taken, the ties still needed. -/
abbrev Ties (F : FTy → Type) : Type := FVec F S1x128 .f32 × IVec S1x128 32 × IVec S1x128 32

/-! ## What the body computes -/

/-- The row numbers of a block: every lane counts 0 to 8191. -/
def rows : IVec S8192x128 32 := iota .tc S8192x128 32 [0] iota_S8192x128_d0_w32

/-- The block maxima after 32 rounds, each striking out every block at the greatest value left. -/
def struck (x : Vec F S1x8192x128 .f32) (y : Vec F S128x8192 .f32) : IVec S64x128 32 :=
  Scf.fold (fun (_ : Fin k0_t1_loop.trips) a => k0_pay22 a) (k0_pay20 x y)

/-- The two ends of the search interval after the 30 halvings, from the scores, the greatest score and the bound got from
    the block maxima. -/
def ends (key : IVec S8192x128 32) (hi : IVec S1x128 32) (z : IVec S1x128 1) (raw low : IVec S1x128 32) :
    IVec S1x128 32 × IVec S1x128 32 :=
  Scf.fold (fun (_ : Fin k0_t2_loop.trips) (p : IVec S1x128 32 × IVec S1x128 32) =>
    (k0_pay4 key hi z raw low p.1 p.2, k0_pay5 key hi z raw low p.1 p.2)) (k0_pay1 hi z raw low, hi)

/-- The threshold: the upper end of the interval. -/
def kth (x : Vec F S1x8192x128 .f32) (y : Vec F S128x8192 .f32) : IVec S1x128 32 :=
  (ends (k0_pay19 x y) (k0_pay21 x y) (k0_pay24 (struck x y)) (k0_pay25 (struck x y)) k0_pay26).2

/-- One round of the tie loop. -/
def tieStep (tie : IVec S8192x128 1) (t : FVec F S8192x128 .f32) (s : Ties F) : Ties F :=
  (k0_pay14 rows tie t s.1 s.2.1 s.2.2, k0_pay13 rows tie s.2.1 s.2.2, k0_pay15 s.2.2)

/-- The loop goes on while some lane needs a tie. -/
def goesOn (need : IVec S1x128 32) : Prop :=
  Scalar.cmpi .sgt (extractAt ![0, 0, 0] (k0_pay12 need) inpos_S1x1x1_p0_0_0) 0#32 = 1#1

/-- The carried values after `k` rounds. -/
def tieRun (tie : IVec S8192x128 1) (t : FVec F S8192x128 .f32) : ℕ → Ties F → Ties F
  | 0, s => s
  | k + 1, s => tieRun tie t k (tieStep tie t s)

/-- The loop runs exactly `k` rounds from `need`. -/
inductive Ends : ℕ → IVec S1x128 32 → Prop
  | done (need : IVec S1x128 32) : ¬ goesOn need → Ends 0 need
  | more (k : ℕ) (need : IVec S1x128 32) : goesOn need → Ends k (k0_pay15 need) → Ends (k + 1) need

theorem ends_zero {need : IVec S1x128 32} (h : Ends 0 need) : ¬ goesOn need := by
  cases h; assumption

theorem ends_succ {k : ℕ} {need : IVec S1x128 32} (h : Ends (k + 1) need) : goesOn need ∧ Ends k (k0_pay15 need) := by
  cases h; exact ⟨‹_›, ‹_›⟩

/-- The rounds the tie loop runs: the greatest number of ties a lane needs. -/
@[irreducible] def rounds (need : IVec S1x128 32) : ℕ := (extractAt ![0, 0, 0] (k0_pay12 need) inpos_S1x1x1_p0_0_0).toInt.toNat

/-- The sum among the carried values. -/
def sumOf (s : Ties F) : FVec F S1x128 .f32 := s.1

/-- The sum of the sampled weights of one block, lane by lane: the sum above the threshold, then one tie for each round. -/
def total (x : Vec F S1x8192x128 .f32) (y : Vec F S128x8192 .f32) : FVec F S1x128 .f32 :=
  sumOf (tieRun (k0_pay9 (k0_pay19 x y) (kth x y)) (k0_pay18 x) (rounds (k0_pay8 (k0_pay19 x y) (kth x y)))
    (k0_pay7 (k0_pay18 x) (k0_pay19 x y) (kth x y), k0_pay10, k0_pay8 (k0_pay19 x y) (kth x y)))

theorem total_eq (x : Vec F S1x8192x128 .f32) (y : Vec F S128x8192 .f32) : total x y =
  sumOf (tieRun (k0_pay9 (k0_pay19 x y) (kth x y)) (k0_pay18 x) (rounds (k0_pay8 (k0_pay19 x y) (kth x y)))
    (k0_pay7 (k0_pay18 x) (k0_pay19 x y) (kth x y), k0_pay10, k0_pay8 (k0_pay19 x y) (kth x y))) := by
  delta total; rfl

theorem kth_eq (x : Vec F S1x8192x128 .f32) (y : Vec F S128x8192 .f32) :
    (ends (k0_pay19 x y) (k0_pay21 x y) (k0_pay24 (struck x y)) (k0_pay25 (struck x y)) k0_pay26).2 = kth x y := by
  delta kth; rfl

/-- What the body stores. -/
def out (x : Vec F S1x8192x128 .f32) (y : Vec F S128x8192 .f32) : FVec F S1x8x128 .f32 :=
  k0_pay11 (k0_pay17 x) (total x y)

theorem out_eq (x : Vec F S1x8192x128 .f32) (y : Vec F S128x8192 .f32) : out x y = k0_pay11 (k0_pay17 x) (total x y) := by
  delta out; rfl

/-! ## The tie loop's label -/

abbrev 𝒱₀ : Variants := Variants.nat

/-- With `k` rounds to go from `s` the label returns the values after them. -/
def spec (tie : IVec S8192x128 1) (t : FVec F S8192x128 .f32) (k : ℕ) (s : Ties F) : sWPT 𝕄 (Ties F) := do
  pure (tieRun tie t k s)

theorem spec_apply (tie : IVec S8192x128 1) (t : FVec F S8192x128 .f32) (k : ℕ) (s : Ties F) (K : Ties F → sProp 𝕄) :
    spec tie t k s K = K (tieRun tie t k s) := rfl

/-- While some lane needs a tie the label calls itself at the next round's values. -/
theorem defs₀_go (i : grid0.Coords) (v : IVec S8192x128 32) (tie : IVec S8192x128 1) (t : FVec F S8192x128 .f32)
    (a : FVec F S1x128 .f32) (b d : IVec S1x128 32) (h : goesOn d) :
    defs₀ (F := F) .tc 1 ⟨i, v, tie, t, a, b, d⟩
      = Prog.op (.call (1 : (Λ₀ F).Label) ⟨i, v, tie, t, k0_pay14 v tie t a b d, k0_pay13 v tie b d, k0_pay15 d⟩) Prog.ret := by
  unfold defs₀; rw [Defs.onTc_tc]
  simp only [cc0_while1_eq_skeleton]; unfold cc0_while1_skel
  exact if_pos h

/-- Otherwise it returns what it was given. -/
theorem defs₀_stop (i : grid0.Coords) (v : IVec S8192x128 32) (tie : IVec S8192x128 1) (t : FVec F S8192x128 .f32)
    (a : FVec F S1x128 .f32) (b d : IVec S1x128 32) (h : ¬ goesOn d) :
    defs₀ (F := F) .tc 1 ⟨i, v, tie, t, a, b, d⟩ = Prog.ret (a, b, d) := by
  unfold defs₀; rw [Defs.onTc_tc]
  simp only [cc0_while1_eq_skeleton]; unfold cc0_while1_skel
  exact if_neg h

section Label

attribute [local irreducible] defs₀

/-- With `k` rounds to go from the given values, the label's body meets the specification. -/
structure Meets (c : Dev nD) (i : grid0.Coords) (tie : IVec S8192x128 1) (t : FVec F S8192x128 .f32) (E : Set ℕ) (k : ℕ)
    (a : FVec F S1x128 .f32) (b d : IVec S1x128 32) : Prop where
  le : ∀ K, spec tie t k (a, b, d) K
      ⊢ wp frame (wpE (defs₀ (F := F)) 𝒱₀ (c : Thread nD τ) (some k)) E
          (defs₀ (F := F) .tc 1 ⟨i, rows, tie, t, a, b, d⟩) K

theorem tieRun_succ (tie : IVec S8192x128 1) (t : FVec F S8192x128 .f32) (k : ℕ) (s : Ties F) :
    tieRun tie t (k + 1) s = tieRun tie t k (tieStep tie t s) := rfl

/-- One round more. -/
theorem meets_succ (c : Dev nD) (i : grid0.Coords) (tie : IVec S8192x128 1) (t : FVec F S8192x128 .f32) (E : Set ℕ) (k : ℕ)
    (a : FVec F S1x128 .f32) (b d : IVec S1x128 32) (a' : FVec F S1x128 .f32) (b' d' : IVec S1x128 32) (h1 : goesOn d)
    (ha : k0_pay14 rows tie t a b d = a') (hb : k0_pay13 rows tie b d = b') (hd : k0_pay15 d = d')
    (hi : Meets c i tie t E k a' b' d') :
    Meets c i tie t E (k + 1) a b d := by
  have hlt : ∀ u ∈ some (k + 1), Variants.nat.lt k u := fun u hu => by cases hu; exact Nat.lt_succ_self k
  constructor
  intro K
  rw [spec_apply, tieRun_succ, tieStep]
  dsimp only
  rw [defs₀_go _ _ _ _ _ _ _ h1, ha, hb, hd]
  refine BIBase.Entails.trans ?_ (wp_call_spec 𝒱₀ (c : Thread nD τ) (some (k + 1)) E (spec tie t k (a', b', d')) k hlt hi.le)
  rw [spec_apply]
  rw [wp_ret]
  exact BI.fupd_intro

/-- No round to go. -/
theorem meets_zero (c : Dev nD) (i : grid0.Coords) (tie : IVec S8192x128 1) (t : FVec F S8192x128 .f32) (E : Set ℕ)
    (a : FVec F S1x128 .f32) (b d : IVec S1x128 32) (h1 : ¬ goesOn d) : Meets c i tie t E 0 a b d := by
  constructor
  intro K
  rw [spec_apply, tieRun]
  rw [defs₀_stop _ _ _ _ _ _ _ h1]
  rw [wp_ret]
  exact BI.fupd_intro

/-- The label's body meets the specification, by induction on the rounds to go. -/
theorem meets (c : Dev nD) (i : grid0.Coords) (tie : IVec S8192x128 1) (t : FVec F S8192x128 .f32) (E : Set ℕ) (k : ℕ)
    (a : FVec F S1x128 .f32) (b d : IVec S1x128 32) (h : Ends k d) : Meets c i tie t E k a b d := by
  induction k generalizing a b d with
  | zero => exact meets_zero c i tie t E a b d (ends_zero h)
  | succ k ih => exact meets_succ c i tie t E k a b d _ _ _ (ends_succ h).1 rfl rfl rfl (ih _ _ _ (ends_succ h).2)

/-- A call of the label, at values from which it makes `k` rounds, goes on at the values after them. -/
theorem wp_tie {α : Type} (c : Dev nD) (i : grid0.Coords) (tie : IVec S8192x128 1) (t : FVec F S8192x128 .f32) (k : ℕ)
    (a : FVec F S1x128 .f32) (b d : IVec S1x128 32) (S : Ties F) (hm : Meets c i tie t Set.univ k a b d)
    (hS : tieRun tie t k (a, b, d) = S) (kont : Ties F → Prog (TpuEff nD τ sig (Elt F) (Λ₀ F) .tc) α) (Q : α → sProp 𝕄) :
    wp frame (wpE (defs₀ (F := F)) 𝒱₀ (c : Thread nD τ) none) Set.univ (kont S) Q
      ⊢ wp frame (wpE (defs₀ (F := F)) 𝒱₀ (c : Thread nD τ) none) Set.univ
          (Prog.op (.call (1 : (Λ₀ F).Label) ⟨i, rows, tie, t, a, b, d⟩) kont) Q := by
  refine BIBase.Entails.trans ?_ (wp_call_spec 𝒱₀ (c : Thread nD τ) none Set.univ (spec tie t k (a, b, d)) k (fun u hu => nomatch hu) hm.le)
  rw [spec_apply, hS]

end Label

end Cert.Proof.KerBody

end
-- ==== Proof.Lane.lean ====
/-
  Integer reductions of a vector, read at one result index: the greatest and the least element, the number of marked
  elements; and the shape operations around them, read at an index.
-/
module

public import Idealize.ShloMosaic.PureOps
public import Idealize.ShloMosaic.Lib.ValueIdxCore
public import Idealize.ShloMosaic.Lib.Pipeline.Value
public import Idealize.ShloMosaic.Lib.WordCmp
public import Idealize.ShloMosaic.Lib.WordSum

@[expose] public section

noncomputable section

namespace Cert.Proof.Lane

open Idealize.ShloMosaic Idealize.ShloMosaic.ValueIdx

/-! ## Words as integers -/

theorem toInt_maxsi (x y : BitVec 32) : (IntOp.maxsi x y).toInt = max x.toInt y.toInt := by
  unfold IntOp.maxsi
  by_cases h : y.toInt < x.toInt
  · rw [if_pos (by simpa [BitVec.slt] using h), max_eq_left h.le]
  · rw [if_neg (by simpa [BitVec.slt] using h), max_eq_right (not_lt.mp h)]

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

theorem toInt_bounds (x : BitVec 32) : -2147483648 ≤ x.toInt ∧ x.toInt ≤ 2147483647 := by
  have h1 := BitVec.le_toInt x
  have h2 := BitVec.toInt_lt (x := x)
  norm_num at h1 h2
  omega

/-! ## Folds over a set of indices -/

section Fold

variable {ι : Type} (s : Finset ι) (f : ι → BitVec 32)

theorem fold_max_ge {i : ι} (h : i ∈ s) (b : BitVec 32) : (f i).toInt ≤ (s.fold IKind.maxsi.op b f).toInt := by
  classical
  induction s using Finset.induction_on with
  | empty => exact absurd h (Finset.notMem_empty _)
  | insert a s ha ih =>
    rw [Finset.fold_insert ha]
    show _ ≤ (IntOp.maxsi _ _).toInt
    rw [toInt_maxsi]
    rcases Finset.mem_insert.mp h with rfl | h
    · exact le_max_left _ _
    · exact (ih h).trans (le_max_right _ _)

theorem fold_max_mem (b : BitVec 32) : s.fold IKind.maxsi.op b f = b ∨ ∃ i ∈ s, s.fold IKind.maxsi.op b f = f i := by
  classical
  induction s using Finset.induction_on with
  | empty => exact .inl rfl
  | insert a s ha ih =>
    rw [Finset.fold_insert ha]
    have hop : ∀ x y, IKind.maxsi.op x y = x ∨ IKind.maxsi.op x y = y := fun x y => by
      show IntOp.maxsi x y = x ∨ IntOp.maxsi x y = y
      unfold IntOp.maxsi; split <;> simp
    rcases hop (f a) (s.fold IKind.maxsi.op b f) with h | h <;> rw [h]
    · exact .inr ⟨a, Finset.mem_insert_self _ _, rfl⟩
    · rcases ih with h' | ⟨i, hi, h'⟩
      · exact .inl h'
      · exact .inr ⟨i, Finset.mem_insert_of_mem hi, h'⟩

theorem fold_min_le {i : ι} (h : i ∈ s) (b : BitVec 32) : (s.fold IKind.minsi.op b f).toInt ≤ (f i).toInt := by
  classical
  induction s using Finset.induction_on with
  | empty => exact absurd h (Finset.notMem_empty _)
  | insert a s ha ih =>
    rw [Finset.fold_insert ha]
    show (IntOp.minsi _ _).toInt ≤ _
    rw [toInt_minsi]
    rcases Finset.mem_insert.mp h with rfl | h
    · exact min_le_left _ _
    · exact (min_le_right _ _).trans (ih h)

theorem fold_min_mem (b : BitVec 32) : s.fold IKind.minsi.op b f = b ∨ ∃ i ∈ s, s.fold IKind.minsi.op b f = f i := by
  classical
  induction s using Finset.induction_on with
  | empty => exact .inl rfl
  | insert a s ha ih =>
    rw [Finset.fold_insert ha]
    have hop : ∀ x y, IKind.minsi.op x y = x ∨ IKind.minsi.op x y = y := fun x y => by
      show IntOp.minsi x y = x ∨ IntOp.minsi x y = y
      unfold IntOp.minsi; split <;> simp
    rcases hop (f a) (s.fold IKind.minsi.op b f) with h | h <;> rw [h]
    · exact .inr ⟨a, Finset.mem_insert_self _ _, rfl⟩
    · rcases ih with h' | ⟨i, hi, h'⟩
      · exact .inl h'
      · exact .inr ⟨i, Finset.mem_insert_of_mem hi, h'⟩

theorem fold_add_count (p : ι → Prop) [DecidablePred p] (w : BitVec 32) (h : ∀ i ∈ s, f i = if p i then w else 0#32) :
    s.fold IKind.add.op 0#32 f = BitVec.ofNat 32 (s.filter p).card * w := by
  classical
  induction s using Finset.induction_on with
  | empty => simp
  | insert a s ha ih =>
    rw [Finset.fold_insert ha, ih fun i hi => h i (Finset.mem_insert_of_mem hi), h a (Finset.mem_insert_self _ _)]
    show (if p a then w else 0#32) + _ = _
    by_cases hp : p a
    · rw [if_pos hp, Finset.filter_insert, if_pos hp, Finset.card_insert_of_notMem (fun hm => ha (Finset.mem_filter.mp hm).1),
        BitVec.ofNat_add, BitVec.add_mul, BitVec.add_comm]
      congr 1
      exact (BitVec.one_mul w).symm
    · rw [if_neg hp, Finset.filter_insert, if_neg hp, BitVec.zero_add]

end Fold

/-! ## Reductions over the rows of a two-axis vector -/

section Rows

variable {n m : ℕ} (h : (⟨2, ![n, m]⟩ : Shape).Reduces [0] ⟨1, ![m]⟩) (v : IVec ⟨2, ![n, m]⟩ 32) (l : Fin m)

theorem drop_rows (i : (⟨2, ![n, m]⟩ : Shape).Idx) : h.drop i = ix1 l ↔ i 1 = l := by
  constructor
  · intro e
    have := congrFun e 0
    apply Fin.ext
    rw [← h.drop_val i 0, this]; rfl
  · intro e
    funext b
    apply Fin.ext
    rw [h.drop_val i b, e]
    fin_cases b; rfl

theorem rows_max_ge (acc : BitVec 32) (hacc : acc = IKind.maxsi.neutral) (r : Fin n) :
    (v (ix2 r l)).toInt ≤ (multiReductionI .maxsi [0] ⟨1, ![m]⟩ v acc h hacc (ix1 l)).toInt := by
  rw [multiReductionI_eq_fold]
  exact fold_max_ge (Finset.univ.filter fun i => h.drop i = ix1 l) v (i := ix2 r l) (Finset.mem_filter.mpr ⟨Finset.mem_univ _, (drop_rows h l _).mpr rfl⟩) _

theorem rows_max_mem (acc : BitVec 32) (hacc : acc = IKind.maxsi.neutral) (hn : 0 < n) :
    ∃ r : Fin n, multiReductionI .maxsi [0] ⟨1, ![m]⟩ v acc h hacc (ix1 l) = v (ix2 r l) := by
  have hge := rows_max_ge h v l acc hacc ⟨0, hn⟩
  rw [multiReductionI_eq_fold] at hge ⊢
  rcases fold_max_mem (Finset.univ.filter fun i => h.drop i = ix1 l) v acc with e | ⟨i, hi, e⟩
  · rw [e] at hge ⊢
    refine ⟨⟨0, hn⟩, ?_⟩
    apply BitVec.eq_of_toInt_eq
    have h1 := toInt_bounds (v (ix2 ⟨0, hn⟩ l))
    have h2 : acc.toInt = -2147483648 := by rw [hacc]; decide
    omega
  · refine ⟨i 0, e.trans (congrArg v ?_)⟩
    have := (drop_rows h l i).mp (Finset.mem_filter.mp hi).2
    rw [← this]; exact eq_ix2 i

theorem rows_min_le (acc : BitVec 32) (hacc : acc = IKind.minsi.neutral) (r : Fin n) :
    (multiReductionI .minsi [0] ⟨1, ![m]⟩ v acc h hacc (ix1 l)).toInt ≤ (v (ix2 r l)).toInt := by
  rw [multiReductionI_eq_fold]
  exact fold_min_le (Finset.univ.filter fun i => h.drop i = ix1 l) v (i := ix2 r l) (Finset.mem_filter.mpr ⟨Finset.mem_univ _, (drop_rows h l _).mpr rfl⟩) _

theorem rows_min_mem (acc : BitVec 32) (hacc : acc = IKind.minsi.neutral) (hn : 0 < n) :
    ∃ r : Fin n, multiReductionI .minsi [0] ⟨1, ![m]⟩ v acc h hacc (ix1 l) = v (ix2 r l) := by
  have hge := rows_min_le h v l acc hacc ⟨0, hn⟩
  rw [multiReductionI_eq_fold] at hge ⊢
  rcases fold_min_mem (Finset.univ.filter fun i => h.drop i = ix1 l) v acc with e | ⟨i, hi, e⟩
  · rw [e] at hge ⊢
    refine ⟨⟨0, hn⟩, ?_⟩
    apply BitVec.eq_of_toInt_eq
    have h1 := toInt_bounds (v (ix2 ⟨0, hn⟩ l))
    have h2 : acc.toInt = 2147483647 := by rw [hacc]; decide
    omega
  · refine ⟨i 0, e.trans (congrArg v ?_)⟩
    have := (drop_rows h l i).mp (Finset.mem_filter.mp hi).2
    rw [← this]; exact eq_ix2 i

/-- The sum of a vector whose rows hold `w` where marked and zero elsewhere: as many times `w` as rows are marked. -/
theorem rows_count (hacc : (0#32 : BitVec 32) = IKind.add.neutral) (p : Fin n → Prop) [DecidablePred p] (w : BitVec 32)
    (hv : ∀ r, v (ix2 r l) = if p r then w else 0#32) :
    multiReductionI .add [0] ⟨1, ![m]⟩ v 0#32 h hacc (ix1 l) = BitVec.ofNat 32 (Finset.univ.filter p).card * w := by
  rw [multiReductionI_eq_fold, fold_add_count _ _ (fun i => p (i 0)) w]
  · congr 2
    rw [Finset.filter_filter]
    apply Finset.card_bij (fun i _ => i 0)
    · intro i hi
      simp only [Finset.mem_filter, Finset.mem_univ, true_and] at hi ⊢
      exact Finset.mem_filter.mpr ⟨Finset.mem_univ _, hi.2⟩
    · intro i hi j hj e
      simp only [Finset.mem_filter, Finset.mem_univ, true_and] at hi hj
      rw [eq_ix2 i, eq_ix2 j, (drop_rows h l i).mp hi.1, (drop_rows h l j).mp hj.1, e]
    · intro r hr
      simp only [Finset.mem_filter, Finset.mem_univ, true_and] at hr
      exact ⟨ix2 r l, by simpa using ⟨(drop_rows h l _).mpr rfl, hr⟩, rfl⟩
  · intro i hi
    have := (drop_rows h l i).mp (Finset.mem_filter.mp hi).2
    rw [← hv (i 0), ← this]; exact congrArg v (eq_ix2 i)

end Rows

/-! ## The shape operations -/

theorem cast_row {α : Type} (x : (⟨1, ![128]⟩ : Shape).Idx → α) (h : (⟨1, ![128]⟩ : Shape).ShapeCasts ⟨2, ![1, 128]⟩) (l : Fin 128) :
    shapeCast ⟨2, ![1, 128]⟩ x h (ix2 0 l) = x (ix1 l) :=
  shapeCast_apply x h _ _ (by rw [Shape.rowMajor_val_one, Shape.rowMajor_val_two]; simp [ix1, ix2])

theorem spread_row {α : Type} {n : ℕ} (x : (⟨2, ![1, 128]⟩ : Shape).Idx → α) (h : (⟨2, ![1, 128]⟩ : Shape).Broadcasts ⟨2, ![n, 128]⟩)
    (r : Fin n) (l : Fin 128) : broadcastTo ⟨2, ![n, 128]⟩ x h (ix2 r l) = x (ix2 0 l) := by
  unfold broadcastTo
  congr 1
  funext a
  match a with
  | ⟨0, _⟩ => rfl
  | ⟨1, _⟩ => rfl

/-! ## The greatest of all lanes, and the counting rows -/

section Lanes

variable (v : IVec ⟨2, ![1, 128]⟩ 32) (h1 : (⟨2, ![1, 128]⟩ : Shape).ShapeCasts ⟨3, ![1, 1, 128]⟩)
  (h2 : (⟨3, ![1, 1, 128]⟩ : Shape).Reduces [1, 2] ⟨1, ![1]⟩) (h3 : (⟨1, ![1]⟩ : Shape).ShapeCasts ⟨3, ![1, 1, 1]⟩)
  (hp : ∀ a, (![0, 0, 0] : Fin 3 → ℕ) a < (⟨3, ![1, 1, 1]⟩ : Shape).size a) (ha : (2147483648#32 : BitVec 32) = IKind.maxsi.neutral)

theorem one_idx (i j : (⟨1, ![1]⟩ : Shape).Idx) : i = j := by
  funext a
  match a with
  | ⟨0, _⟩ => exact Subsingleton.elim (α := Fin 1) _ _

theorem cast_lane (l : Fin 128) : shapeCast ⟨3, ![1, 1, 128]⟩ v h1 (ix3 0 0 l) = v (ix2 0 l) :=
  shapeCast_apply v h1 _ _ (by rw [Shape.rowMajor_val_two, Shape.rowMajor_val_three]; simp [ix2, ix3])

/-- The greatest over all lanes, as one word. -/
def top : BitVec 32 :=
  extractAt ![0, 0, 0] (shapeCast ⟨3, ![1, 1, 1]⟩ (multiReductionI .maxsi [1, 2] ⟨1, ![1]⟩ (shapeCast ⟨3, ![1, 1, 128]⟩ v h1) 2147483648#32 h2 ha) h3) hp

theorem top_ge (l : Fin 128) : (v (ix2 0 l)).toInt ≤ (top v h1 h2 h3 hp ha).toInt := by
  unfold top extractAt
  rw [shapeCast_apply _ h3 _ (ix1 0) (by rw [Shape.rowMajor_val_one, Shape.rowMajor_val_three]; simp [ix1]), multiReductionI_eq_fold, ← cast_lane v h1 l]
  exact fold_max_ge (Finset.univ.filter fun i => h2.drop i = ix1 0) (shapeCast ⟨3, ![1, 1, 128]⟩ v h1) (i := ix3 0 0 l)
    (Finset.mem_filter.mpr ⟨Finset.mem_univ _, one_idx _ _⟩) _

theorem top_mem : ∃ l : Fin 128, top v h1 h2 h3 hp ha = v (ix2 0 l) := by
  have hge := top_ge v h1 h2 h3 hp ha 0
  unfold top extractAt at hge ⊢
  rw [shapeCast_apply _ h3 _ (ix1 0) (by rw [Shape.rowMajor_val_one, Shape.rowMajor_val_three]; simp [ix1]), multiReductionI_eq_fold] at hge ⊢
  rcases fold_max_mem (Finset.univ.filter fun i => h2.drop i = ix1 0) (shapeCast ⟨3, ![1, 1, 128]⟩ v h1) 2147483648#32 with e | ⟨i, -, e⟩
  · rw [e] at hge ⊢
    refine ⟨0, ?_⟩
    apply BitVec.eq_of_toInt_eq
    have h1 := toInt_bounds (v (ix2 0 0))
    have h2 : (2147483648#32 : BitVec 32).toInt = -2147483648 := by decide
    omega
  · refine ⟨i 2, e.trans ?_⟩
    have h0 : i 0 = (0 : Fin 1) := Subsingleton.elim (α := Fin 1) _ _
    have h1' : i 1 = (0 : Fin 1) := Subsingleton.elim (α := Fin 1) _ _
    have hi : i = ix3 0 0 (i 2) := (eq_ix3 i).trans (congrArg₂ (fun (a b : Fin 1) => ix3 (n0 := 1) (n1 := 1) a b (i 2)) h0 h1')
    exact (congrArg _ hi).trans (cast_lane v h1 (i 2))

end Lanes

theorem iota_row {n : ℕ} (h : (⟨2, ![n, 128]⟩ : Shape).Iotas .tc 32 [0]) (r : Fin n) (l : Fin 128) :
    iota .tc ⟨2, ![n, 128]⟩ 32 [0] h (ix2 r l) = BitVec.ofNat 32 r.val := by
  unfold iota
  show BitVec.ofNat 32 ([0].foldl _ 0) = _
  simp only [List.foldl_cons, List.foldl_nil, Nat.zero_mul, Nat.zero_add]
  rfl

theorem toInt_ofNat_small {k : ℕ} (h : k < 2147483648) : (BitVec.ofNat 32 k).toInt = k := by
  rw [BitVec.toInt_ofNat']
  norm_num
  rw [Int.bmod_def]
  omega

/-- A column of words as integers. -/
def lane {n : ℕ} (v : IVec ⟨2, ![n, 128]⟩ 32) (l : Fin 128) : Fin n → ℤ := fun r => (v (ix2 r l)).toInt

theorem sum_ones {n : ℕ} (h : (⟨2, ![n, 128]⟩ : Shape).Reduces [0] ⟨1, ![128]⟩) (p : IVec ⟨2, ![n, 128]⟩ 1) (hw : 1 < 32) (l : Fin 128)
    (q : Fin n → Prop) [DecidablePred q] (hp : ∀ r, p (ix2 r l) = BitVec.ofBool (decide (q r))) :
    multiReductionI .add [0] ⟨1, ![128]⟩ (extui 32 p hw) 0#32 h rfl (ix1 l) = BitVec.ofNat 32 (Finset.univ.filter q).card := by
  rw [rows_count h _ l rfl q 1#32 ?_, BitVec.mul_one]
  intro r
  show (p (ix2 r l)).setWidth 32 = _
  rw [hp]
  by_cases h : q r <;> simp [h]

/-- The first marked row of a column, as the least row number over the marked ones. -/
theorem least_row {n : ℕ} (hn : 0 < n) (hn' : n < 2147483648) (h : (⟨2, ![n, 128]⟩ : Shape).Reduces [0] ⟨1, ![128]⟩) (hi : (⟨2, ![n, 128]⟩ : Shape).Iotas .tc 32 [0])
    (p : IVec ⟨2, ![n, 128]⟩ 1) (l : Fin 128) (q : Fin n → Prop) [DecidablePred q] (hp : ∀ r, p (ix2 r l) = BitVec.ofBool (decide (q r)))
    (r : Fin n) :
    BitVec.ofNat 32 r.val = multiReductionI .minsi [0] ⟨1, ![128]⟩ (select p (iota .tc ⟨2, ![n, 128]⟩ 32 [0] hi) (broadcast ⟨2, ![n, 128]⟩ (BitVec.ofNat 32 n))) 2147483647#32 h rfl (ix1 l)
      ↔ q r ∧ ∀ r', q r' → r ≤ r' := by
  have hval : ∀ r', (select p (iota .tc ⟨2, ![n, 128]⟩ 32 [0] hi) (broadcast ⟨2, ![n, 128]⟩ (BitVec.ofNat 32 n))) (ix2 r' l)
      = if q r' then BitVec.ofNat 32 r'.val else BitVec.ofNat 32 n := by
    intro r'
    show (if p (ix2 r' l) = 1#1 then iota .tc ⟨2, ![n, 128]⟩ 32 [0] hi (ix2 r' l) else BitVec.ofNat 32 n) = _
    rw [hp, iota_row]
    by_cases hq : q r' <;> simp [hq]
  have hle := rows_min_le h (select p (iota .tc ⟨2, ![n, 128]⟩ 32 [0] hi) (broadcast ⟨2, ![n, 128]⟩ (BitVec.ofNat 32 n))) l 2147483647#32 rfl
  obtain ⟨r0, hr0⟩ := rows_min_mem h (select p (iota .tc ⟨2, ![n, 128]⟩ 32 [0] hi) (broadcast ⟨2, ![n, 128]⟩ (BitVec.ofNat 32 n))) l 2147483647#32 rfl hn
  simp only [hval] at hle hr0
  generalize multiReductionI .minsi [0] ⟨1, ![128]⟩ (select p (iota .tc ⟨2, ![n, 128]⟩ 32 [0] hi) (broadcast ⟨2, ![n, 128]⟩ (BitVec.ofNat 32 n))) 2147483647#32 h rfl (ix1 l) = w at hle hr0 ⊢
  have hr := r.isLt
  have hrI := toInt_ofNat_small (k := r.val) (by omega)
  have hnI := toInt_ofNat_small (k := n) hn'
  constructor
  · intro e
    subst e
    have hq : q r := by
      by_contra hq
      by_cases hq0 : q r0
      · rw [if_pos hq0] at hr0
        have := congrArg BitVec.toInt hr0
        rw [hrI, toInt_ofNat_small (by omega)] at this
        exact hq (by rwa [show r = r0 from Fin.ext (by exact_mod_cast this)])
      · rw [if_neg hq0] at hr0
        have := congrArg BitVec.toInt hr0
        omega
    refine ⟨hq, fun r' hq' => ?_⟩
    have := hle r'
    rw [if_pos hq', hrI, toInt_ofNat_small (by omega)] at this
    exact Fin.le_def.mpr (by exact_mod_cast this)
  · rintro ⟨hq, hmin⟩
    have h1 := hle r
    rw [if_pos hq, hrI] at h1
    by_cases hq0 : q r0
    · rw [if_pos hq0] at hr0
      have h2 := Fin.le_def.mp (hmin r0 hq0)
      rw [hr0, toInt_ofNat_small (by omega)] at h1
      have : r.val = r0.val := by omega
      rw [hr0, this]
    · rw [if_neg hq0] at hr0
      rw [hr0, hnI] at h1
      omega

/-! ## The greatest of every block of rows -/

section Blocks

variable (v : IVec ⟨2, ![8192, 128]⟩ 32) (hc : (⟨2, ![8192, 128]⟩ : Shape).ShapeCasts ⟨3, ![64, 128, 128]⟩)
  (h : (⟨3, ![64, 128, 128]⟩ : Shape).Reduces [1] ⟨2, ![64, 128]⟩) (ha : (2147483648#32 : BitVec 32) = IKind.maxsi.neutral)
  (b : Fin 64) (l : Fin 128)

theorem drop_block (i : (⟨3, ![64, 128, 128]⟩ : Shape).Idx) : h.drop i = ix2 b l ↔ i 0 = b ∧ i 2 = l := by
  have h0 : (h.drop i 0 : ℕ) = i 0 := h.drop_apply_val_of_eq i 0 0
  have h1 : (h.drop i 1 : ℕ) = i 2 := h.drop_apply_val_of_eq i 1 2
  constructor
  · intro e
    rw [e] at h0 h1
    exact ⟨Fin.ext h0.symm, Fin.ext h1.symm⟩
  · rintro ⟨e0, e2⟩
    funext a
    apply Fin.ext
    match a with
    | ⟨0, _⟩ => exact h0.trans (congrArg Fin.val e0)
    | ⟨1, _⟩ => exact h1.trans (congrArg Fin.val e2)

/-- Row `i` of block `b`. -/
def blockRow (i : Fin 128) : Fin 8192 := ⟨b.val * 128 + i.val, by have := b.isLt; have := i.isLt; omega⟩

theorem cast_block (i : Fin 128) : shapeCast ⟨3, ![64, 128, 128]⟩ v hc (ix3 b i l) = v (ix2 (blockRow b i) l) :=
  shapeCast_apply v hc _ _ (by rw [Shape.rowMajor_val_two, Shape.rowMajor_val_three]; rfl)

theorem block_max_ge (i : Fin 128) :
    (v (ix2 (blockRow b i) l)).toInt ≤ (multiReductionI .maxsi [1] ⟨2, ![64, 128]⟩ (shapeCast ⟨3, ![64, 128, 128]⟩ v hc) 2147483648#32 h ha (ix2 b l)).toInt := by
  rw [multiReductionI_eq_fold, ← cast_block v hc b l i]
  exact fold_max_ge (Finset.univ.filter fun i => h.drop i = ix2 b l) (shapeCast ⟨3, ![64, 128, 128]⟩ v hc) (i := ix3 b i l)
    (Finset.mem_filter.mpr ⟨Finset.mem_univ _, (drop_block h b l _).mpr ⟨rfl, rfl⟩⟩) _

theorem block_max_mem : ∃ i : Fin 128,
    multiReductionI .maxsi [1] ⟨2, ![64, 128]⟩ (shapeCast ⟨3, ![64, 128, 128]⟩ v hc) 2147483648#32 h ha (ix2 b l) = v (ix2 (blockRow b i) l) := by
  have hge := block_max_ge v hc h ha b l 0
  rw [multiReductionI_eq_fold] at hge ⊢
  rcases fold_max_mem (Finset.univ.filter fun i => h.drop i = ix2 b l) (shapeCast ⟨3, ![64, 128, 128]⟩ v hc) 2147483648#32 with e | ⟨i, hi, e⟩
  · rw [e] at hge ⊢
    refine ⟨0, ?_⟩
    apply BitVec.eq_of_toInt_eq
    have h1 := toInt_bounds (v (ix2 (blockRow b 0) l))
    have h2 : (2147483648#32 : BitVec 32).toInt = -2147483648 := by decide
    omega
  · obtain ⟨h0, h2⟩ := (drop_block h b l i).mp (Finset.mem_filter.mp hi).2
    refine ⟨i 1, e.trans ?_⟩
    have hi : i = ix3 b (i 1) l := (eq_ix3 i).trans (congrArg₂ (fun (a : Fin 64) (c : Fin 128) => ix3 (n0 := 64) (n2 := 128) a (i 1) c) h0 h2)
    exact (congrArg _ hi).trans (cast_block v hc b l (i 1))

theorem exists_block (r : Fin 8192) : ∃ b i, r = blockRow b i :=
  ⟨⟨r.val / 128, by have := r.isLt; omega⟩, ⟨r.val % 128, by omega⟩, Fin.ext (by show r.val = r.val / 128 * 128 + r.val % 128; omega)⟩

theorem blockRow_inj {b b' : Fin 64} {i i' : Fin 128} (e : blockRow b i = blockRow b' i') : b = b' := by
  have := congrArg Fin.val e
  have h1 := i.isLt
  have h2 := i'.isLt
  unfold blockRow at this
  simp only at this
  exact Fin.ext (by omega)

end Blocks

/-- With no row marked, the least row number is the number of rows. -/
theorem least_none {n : ℕ} (hn : 0 < n) (h : (⟨2, ![n, 128]⟩ : Shape).Reduces [0] ⟨1, ![128]⟩) (hi : (⟨2, ![n, 128]⟩ : Shape).Iotas .tc 32 [0])
    (p : IVec ⟨2, ![n, 128]⟩ 1) (l : Fin 128) (hp : ∀ r, p (ix2 r l) = 0#1) :
    multiReductionI .minsi [0] ⟨1, ![128]⟩ (select p (iota .tc ⟨2, ![n, 128]⟩ 32 [0] hi) (broadcast ⟨2, ![n, 128]⟩ (BitVec.ofNat 32 n))) 2147483647#32 h rfl (ix1 l)
      = BitVec.ofNat 32 n := by
  obtain ⟨r0, hr0⟩ := rows_min_mem h (select p (iota .tc ⟨2, ![n, 128]⟩ 32 [0] hi) (broadcast ⟨2, ![n, 128]⟩ (BitVec.ofNat 32 n))) l 2147483647#32 rfl hn
  refine hr0.trans ?_
  show (if p (ix2 r0 l) = 1#1 then _ else BitVec.ofNat 32 n) = _
  rw [hp, if_neg (by decide)]

end Cert.Proof.Lane

end
-- ==== Proof.Order.lean ====
/-
  Ranking finitely many rows by an integer key, the greatest first and the earlier row first among equals: the position of
  a row, the number of rows above a value, and how the two meet.
-/
module

public import Idealize.ShloMosaic.PureOps
public import Mathlib.Data.Fintype.EquivFin
public import Mathlib.Data.Fintype.Card
public import Mathlib.Tactic.Linarith

@[expose] public section

namespace Cert.Proof.Order

variable {n : ℕ} (key : Fin n → ℤ)

/-- Row `a` comes before row `b`: its key is greater, or equal and the row earlier. -/
def Before (a b : Fin n) : Prop := key b < key a ∨ (key a = key b ∧ a < b)

instance (a b : Fin n) : Decidable (Before key a b) := by unfold Before; infer_instance

/-- The number of rows before a row. -/
def pos (r : Fin n) : ℕ := (Finset.univ.filter fun a => Before key a r).card

/-- The number of rows whose key is above a value. -/
def over (v : ℤ) : ℕ := (Finset.univ.filter fun r => v < key r).card

variable {key}

theorem before_trans {a b c : Fin n} (h1 : Before key a b) (h2 : Before key b c) : Before key a c := by
  unfold Before at *
  rcases h1 with h1 | ⟨h1, h1'⟩ <;> rcases h2 with h2 | ⟨h2, h2'⟩
  · exact .inl (h2.trans h1)
  · exact .inl (h2 ▸ h1)
  · exact .inl (h1 ▸ h2)
  · exact .inr ⟨h1.trans h2, h1'.trans h2'⟩

theorem not_before_self (a : Fin n) : ¬ Before key a a := by
  rintro (h | ⟨-, h⟩) <;> exact lt_irrefl _ h

theorem before_total {a b : Fin n} (h : a ≠ b) : Before key a b ∨ Before key b a := by
  unfold Before
  rcases lt_trichotomy (key a) (key b) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem pos_lt_of_before {a b : Fin n} (h : Before key a b) : pos key a < pos key b := by
  apply Finset.card_lt_card
  refine ⟨fun c hc => ?_, fun hs => ?_⟩
  · simp only [Finset.mem_filter, Finset.mem_univ, true_and] at hc ⊢
    exact before_trans hc h
  · have := hs (Finset.mem_filter.mpr ⟨Finset.mem_univ a, h⟩)
    exact not_before_self a (Finset.mem_filter.mp this).2

/-- Positions order the rows as `Before` does. -/
theorem pos_lt_iff {a b : Fin n} : pos key a < pos key b ↔ Before key a b := by
  refine ⟨fun h => ?_, pos_lt_of_before⟩
  rcases eq_or_ne a b with rfl | hne
  · exact absurd h (lt_irrefl _)
  · rcases before_total (key := key) hne with h1 | h1
    · exact h1
    · exact absurd (h.trans (pos_lt_of_before h1)) (lt_irrefl _)

theorem pos_injective : Function.Injective (pos key) := by
  intro a b h
  by_contra hne
  rcases before_total (key := key) hne with h1 | h1 <;> have := pos_lt_of_before h1 <;> omega

theorem pos_lt (r : Fin n) : pos key r < n := by
  have h : (Finset.univ.filter fun a => Before key a r).card < (Finset.univ : Finset (Fin n)).card := by
    apply Finset.card_lt_card
    refine ⟨Finset.filter_subset _ _, fun hs => ?_⟩
    exact not_before_self r (Finset.mem_filter.mp (hs (Finset.mem_univ r))).2
  simpa [pos] using h

/-- Every position is taken. -/
theorem exists_pos {i : ℕ} (h : i < n) : ∃ r, pos key r = i := by
  have hinj : Function.Injective (fun r : Fin n => (⟨pos key r, pos_lt r⟩ : Fin n)) := fun a b hab => pos_injective (Fin.mk.inj_iff.mp hab)
  obtain ⟨r, hr⟩ := (Finite.injective_iff_surjective.mp hinj) ⟨i, h⟩
  exact ⟨r, congrArg Fin.val hr⟩

/-- A row's key is at most a value exactly when its position is not among those above the value. -/
theorem over_le_pos {v : ℤ} {r : Fin n} : over key v ≤ pos key r ↔ key r ≤ v := by
  constructor
  · intro h
    by_contra hv
    push Not at hv
    have : pos key r < over key v := by
      apply Finset.card_lt_card
      refine ⟨fun c hc => ?_, fun hs => ?_⟩
      · simp only [Finset.mem_filter, Finset.mem_univ, true_and] at hc ⊢
        rcases hc with hc | ⟨hc, -⟩ <;> omega
      · have := hs (Finset.mem_filter.mpr ⟨Finset.mem_univ r, hv⟩)
        exact not_before_self r (Finset.mem_filter.mp this).2
    omega
  · intro h
    apply Finset.card_le_card
    intro c hc
    simp only [Finset.mem_filter, Finset.mem_univ, true_and] at hc ⊢
    exact .inl (by omega)

theorem key_le_of_pos_le {a b : Fin n} (h : pos key a ≤ pos key b) : key b ≤ key a := by
  rcases h.lt_or_eq with h | h
  · rcases pos_lt_iff.mp h with h | ⟨h, -⟩ <;> omega
  · exact (pos_injective h ▸ le_refl _)

theorem pos_lt_iff_of_eq {a b : Fin n} (h : key a = key b) : pos key a < pos key b ↔ a < b := by
  rw [pos_lt_iff, Before]; constructor
  · rintro (h1 | ⟨-, h1⟩)
    · omega
    · exact h1
  · intro h1; exact .inr ⟨h, h1⟩

/-- Among the rows from position `i` on, the one at position `i` is the first of the greatest. -/
theorem before_or_eq {i : ℕ} {a b : Fin n} (ha : pos key a = i) (hb : i ≤ pos key b) : b = a ∨ Before key a b := by
  rcases hb.lt_or_eq with h | h
  · exact .inr (pos_lt_iff.mp (ha ▸ h))
  · exact .inl (pos_injective (ha.trans h).symm)

theorem over_le (v : ℤ) : over key v ≤ n := by
  unfold over
  exact (Finset.card_le_univ _).trans (by simp)

end Cert.Proof.Order

end
-- ==== Proof.KerSel.lean ====
/-
  The selection's payloads read at one lane: which rows lie above the threshold, how many are still wanted, which row a
  tie step takes, and that the tie loop ends.
-/
module

public import proofs.«01_k».proof.Proof.KerTies
public import proofs.«01_k».proof.Proof.Lane
public import proofs.«01_k».proof.Proof.Order

@[expose] public section

noncomputable section

namespace Cert.Proof.KerSel

open Idealize.ShloMosaic Idealize.ShloMosaic.ValueIdx Idealize.ShloMosaic.WordCmp Cert.Kernel Cert.Kernel.Gen Cert.Proof.Lane Cert.Proof.Order Cert.Proof.KerBody

variable (key : IVec S8192x128 32) (h d : IVec S1x128 32) (l : Fin 128)

/-- The rows above the threshold. -/
theorem above_at (r : Fin 8192) : k0_pay6 key h (ix2 r l) = BitVec.ofBool (decide ((h (ix2 0 l)).toInt < lane key l r)) := by
  show IntOp.cmpi .sgt (key (ix2 r l)) (broadcastTo S8192x128 h broadcasts_S1x128_S8192x128 (ix2 r l)) = _
  rw [spread_row h broadcasts_S1x128_S8192x128, cmpi_sgt_eq]
  rfl

/-- The rows at the threshold. -/
theorem tied_at (r : Fin 8192) : k0_pay9 key h (ix2 r l) = BitVec.ofBool (decide (lane key l r = (h (ix2 0 l)).toInt)) := by
  show IntOp.cmpi .eq (key (ix2 r l)) (broadcastTo S8192x128 h broadcasts_S1x128_S8192x128 (ix2 r l)) = _
  rw [spread_row h broadcasts_S1x128_S8192x128, cmpi_eq_eq]
  congr 2
  exact propext ⟨fun e => congrArg BitVec.toInt e, BitVec.eq_of_toInt_eq⟩

/-- How many rows are wanted from the tie: thirty-two less those above the threshold. -/
theorem wanted_at : k0_pay8 key h (ix2 0 l) = 32#32 - BitVec.ofNat 32 (over (lane key l) (h (ix2 0 l)).toInt) := by
  show 32#32 - shapeCast S1x128 (multiReductionI .add [0] S128 (extui 32 (k0_pay6 key h) natLt_1_32) 0#32 reduces_S8192x128_S128 rfl) shapeCasts_S128_S1x128 (ix2 0 l) = _
  rw [cast_row _ shapeCasts_S128_S1x128]
  refine congrArg (fun w : BitVec 32 => 32#32 - w) ?_
  exact sum_ones reduces_S8192x128_S128 (k0_pay6 key h) natLt_1_32 l _ (above_at key h l)

theorem toInt_wanted : (k0_pay8 key h (ix2 0 l)).toInt = 32 - (over (lane key l) (h (ix2 0 l)).toInt : ℤ) := by
  rw [wanted_at]
  have := over_le (key := lane key l) (h (ix2 0 l)).toInt
  generalize over (lane key l) (h (ix2 0 l)).toInt = c at this ⊢
  rw [BitVec.toInt_sub, toInt_ofNat_small (k := c) (by omega), show (32#32 : BitVec 32).toInt = 32 from by decide, Int.bmod_def]
  omega

theorem toInt_less (hd : -2147483648 < (d (ix2 0 l)).toInt) : (k0_pay15 d (ix2 0 l)).toInt = max ((d (ix2 0 l)).toInt - 1) 0 := by
  show (IntOp.maxsi (d (ix2 0 l) - 1#32) 0#32).toInt = _
  rw [toInt_maxsi, BitVec.toInt_sub, show (1#32 : BitVec 32).toInt = 1 from by decide, show (0#32 : BitVec 32).toInt = 0 from by decide, Int.bmod_def]
  have := toInt_bounds (d (ix2 0 l))
  congr 1
  omega

theorem most_eq : extractAt ![0, 0, 0] (k0_pay12 d) inpos_S1x1x1_p0_0_0
    = top d shapeCasts_S1x128_S1x1x128 reduces_S1x1x128_S1 shapeCasts_S1_S1x1x1 inpos_S1x1x1_p0_0_0 rfl := rfl

theorem most_ge : (d (ix2 0 l)).toInt ≤ (extractAt ![0, 0, 0] (k0_pay12 d) inpos_S1x1x1_p0_0_0).toInt := by
  rw [most_eq]; exact top_ge _ _ _ _ _ _ _

theorem most_mem : ∃ l : Fin 128, extractAt ![0, 0, 0] (k0_pay12 d) inpos_S1x1x1_p0_0_0 = d (ix2 0 l) := by
  rw [most_eq]; exact top_mem _ _ _ _ _ _

theorem goesOn_iff : goesOn d ↔ 0 < (extractAt ![0, 0, 0] (k0_pay12 d) inpos_S1x1x1_p0_0_0).toInt := by
  unfold goesOn
  show IntOp.cmpi .sgt _ _ = 1#1 ↔ _
  rw [cmpi_sgt_eq, ofBool_decide_eq_one_iff]
  rfl

theorem ends_of_most (n : ℕ) : ∀ d : IVec S1x128 32, (∀ l, -2147483648 < (d (ix2 0 l)).toInt) →
    (extractAt ![0, 0, 0] (k0_pay12 d) inpos_S1x1x1_p0_0_0).toInt.toNat = n → Ends n d := by
  induction n with
  | zero =>
    intro d hd hn
    refine .done d ?_
    rw [goesOn_iff]; omega
  | succ n ih =>
    intro d hd hn
    refine .more n d ?_ (ih _ ?_ ?_)
    · rw [goesOn_iff]; omega
    · intro l
      rw [toInt_less d l (hd l)]
      exact lt_of_lt_of_le (by norm_num) (le_max_right _ _)
    · obtain ⟨l1, h1⟩ := most_mem (k0_pay15 d)
      obtain ⟨l0, h0⟩ := most_mem d
      have hge := most_ge (k0_pay15 d) l0
      have hge1 := most_ge d l1
      rw [toInt_less d _ (hd _), ← h0] at hge
      rw [h1, toInt_less d _ (hd _)] at hge ⊢
      have := le_max_left ((extractAt ![0, 0, 0] (k0_pay12 d) inpos_S1x1x1_p0_0_0).toInt - 1) 0
      have h2 := max_choice ((d (ix2 0 l1)).toInt - 1) 0
      omega

/-- The tie loop ends after as many steps as the neediest lane wants rows. -/
theorem ends_rounds : Ends (rounds (k0_pay8 key h)) (k0_pay8 key h) := by
  unfold rounds
  refine ends_of_most _ _ (fun l => ?_) rfl
  rw [toInt_wanted]
  have := over_le (key := lane key l) (h (ix2 0 l)).toInt
  omega

/-- The row a tie step takes: the first tied row after the one before, while rows are wanted. -/
theorem step_row (tie : IVec S8192x128 1) (prev need : IVec S1x128 32) (q : Fin 8192 → Prop) [DecidablePred q]
    (hq : ∀ r, tie (ix2 r l) = BitVec.ofBool (decide (q r))) (r : Fin 8192) :
    BitVec.ofNat 32 r.val = k0_pay13 rows tie prev need (ix2 0 l)
      ↔ (q r ∧ (prev (ix2 0 l)).toInt < r.val ∧ 0 < (need (ix2 0 l)).toInt)
        ∧ ∀ r' : Fin 8192, (q r' ∧ (prev (ix2 0 l)).toInt < r'.val ∧ 0 < (need (ix2 0 l)).toInt) → r ≤ r' := by
  have e : k0_pay13 rows tie prev need (ix2 0 l) = multiReductionI .minsi [0] S128 (select (andi (andi tie (cmpi .sgt rows (broadcastTo S8192x128 prev broadcasts_S1x128_S8192x128)))
      (broadcastTo S8192x128 (cmpi .sgt need (broadcast S1x128 0#32)) broadcasts_S1x128_S8192x128)) rows (broadcast S8192x128 8192#32)) 2147483647#32 reduces_S8192x128_S128 rfl (ix1 l) :=
    by unfold k0_pay13; exact cast_row (multiReductionI .minsi [0] S128 (select (andi (andi tie (cmpi .sgt rows (broadcastTo S8192x128 prev broadcasts_S1x128_S8192x128)))
      (broadcastTo S8192x128 (cmpi .sgt need (broadcast S1x128 0#32)) broadcasts_S1x128_S8192x128)) rows (broadcast S8192x128 8192#32)) 2147483647#32 reduces_S8192x128_S128 rfl) shapeCasts_S128_S1x128 l
  rw [e, ← least_row (n := 8192) (by norm_num) (by norm_num) reduces_S8192x128_S128 iota_S8192x128_d0_w32
    (andi (andi tie (cmpi .sgt rows (broadcastTo S8192x128 prev broadcasts_S1x128_S8192x128)))
      (broadcastTo S8192x128 (cmpi .sgt need (broadcast S1x128 0#32)) broadcasts_S1x128_S8192x128)) l
    (fun r : Fin 8192 => q r ∧ (prev (ix2 0 l)).toInt < r.val ∧ 0 < (need (ix2 0 l)).toInt) ?_ r]
  · exact Iff.rfl
  · intro r
    show IntOp.andi (IntOp.andi (tie (ix2 r l)) (IntOp.cmpi .sgt (iota .tc S8192x128 32 [0] iota_S8192x128_d0_w32 (ix2 r l)) (broadcastTo S8192x128 prev broadcasts_S1x128_S8192x128 (ix2 r l))))
      (broadcastTo S8192x128 (cmpi .sgt need (broadcast S1x128 0#32)) broadcasts_S1x128_S8192x128 (ix2 r l)) = _
    rw [spread_row prev broadcasts_S1x128_S8192x128, spread_row _ broadcasts_S1x128_S8192x128, iota_row, hq, cmpi_sgt_eq]
    rw [show cmpi .sgt need (broadcast S1x128 0#32) (ix2 0 l) = IntOp.cmpi .sgt (need (ix2 0 l)) 0#32 from rfl, cmpi_sgt_eq, andi_ofBool, andi_ofBool, toInt_ofNat_small (by have := r.isLt; omega), show (0#32 : BitVec 32).toInt = 0 from by decide]
    refine congrArg BitVec.ofBool ?_
    by_cases h1 : q r <;> by_cases h2 : (prev (ix2 0 l)).toInt < r.val <;> by_cases h3 : 0 < (need (ix2 0 l)).toInt <;> simp [h1, h2, h3]

end Cert.Proof.KerSel

end
-- ==== Proof.KerBody.lean ====
/-
  The kernel's selection program: what one grid point's body computes, as a pure function of its two input blocks; the
  tie loop's specification, the body's triple, the run and the frame.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import proofs.«01_k».proof.Proof.KerTies
public import proofs.«01_k».proof.Proof.KerSel
public import Idealize.ShloMosaic.Lib.Tactic
public import Idealize.ShloMosaic.Lib.WordCmp

@[expose] public section

set_option maxRecDepth 16384

noncomputable section

namespace Cert.Proof.KerBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's triple -/

abbrev r1 : Rect S1x8192x128 := Rect.unit (s := S1x8192x128) ![0, 0, 0] S1x8192x128.size inb_S1x8192x128_S1x8192x128_0_0_0
abbrev r2 : Rect S128x8192 := Rect.unit (s := S128x8192) ![0, 0] S128x8192.size inb_S128x8192_S128x8192_0_0

theorem zero3 : (![0, 0, 0] : Fin 3 → ℕ) = fun _ => 0 := by
  funext a; fin_cases a <;> rfl

theorem zero2 : (![0, 0] : Fin 2 → ℕ) = fun _ => 0 := by
  funext a; fin_cases a <;> rfl

/-- The one store covers the result's block. -/
theorem cover (p : Vec F S1x8x128 .f32) (y : S1x8x128.Idx) :
    ∃ pc ∈ ([⟨Rect.unit (s := S1x8x128) ![0, 0, 0] S1x8x128.size inb_S1x8x128_S1x8x128_0_0_0, p⟩] : List (View.Piece (Elt F) S1x8x128 .f32)), y ∈ pc.1.set := by
  refine ⟨_, List.mem_singleton_self _, ?_⟩
  exact View.mem_set_unit_zero zero3 inb_S1x8x128_S1x8x128_0_0_0 y

section Body

attribute [local irreducible] defs₀

variable (c : Dev nD) (i : grid0.Coords)
  (arg1 : Memref sig .tc .vmem S1x8192x128 .f32) (harg1 : arg1.IsWhole)
  (arg2 : Memref sig .tc .vmem S128x8192 .f32) (harg2 : arg2.IsWhole)
  (arg3 : Memref sig .tc .vmem S1x8x128 .f32) (harg3 : arg3.IsWhole)

set_option maxHeartbeats 800000 in
/-- The body on whole staging memrefs: the inputs stay, the result's block ends at `out` of them. -/
theorem sound_kernel (X : Vec F S1x8192x128 .f32) (Y : Vec F S128x8192 .f32) (K : PUnit → sProp 𝕄) :
    iprop(owns (c : Thread nD τ) arg1 fullShare X ∗ owns (c : Thread nD τ) arg2 fullShare Y ∗ (∃ d, owns (c : Thread nD τ) arg3 fullShare d)
        ∗ (iprop(owns (c : Thread nD τ) arg1 fullShare X ∗ owns (c : Thread nD τ) arg2 fullShare Y
          ∗ owns (c : Thread nD τ) arg3 fullShare (out X Y)) -∗ K ⟨⟩))
      ⊢ wp frame (wpE (defs₀ (F := F)) 𝒱₀ c none) Set.univ (cc0__topk_body i arg1 harg1 arg2 harg2 arg3 harg3) K := by
  simp only [cc0__topk_body_eq_skeleton]; unfold cc0__topk_body_skel
  unfold owns
  iintro ⟨⟨%f0, %hf0, H0⟩, ⟨%f1, %hf1, H1⟩, ⟨%d2, %f2, -, H2⟩, Hk⟩
  subst hf0 hf1
  sl_exec
  have e1 : sound_kernel.sl.v59 = rows := rfl
  have e2 : sound_kernel.sl.r_2 c arg1 f0 = k0_pay18 (View.ld (arg1.view.read (Elt F) f0) r1) := rfl
  have e3 : sound_kernel.sl.r_3 c arg1 arg2 f0 f1 = k0_pay19 (View.ld (arg1.view.read (Elt F) f0) r1) (View.ld (arg2.view.read (Elt F) f1) r2) := rfl
  have e7 : sound_kernel.sl.r_7 c arg1 arg2 f0 f1 = ends (k0_pay19 (View.ld (arg1.view.read (Elt F) f0) r1) (View.ld (arg2.view.read (Elt F) f1) r2))
     (k0_pay21 (View.ld (arg1.view.read (Elt F) f0) r1) (View.ld (arg2.view.read (Elt F) f1) r2))
     (k0_pay24 (struck (View.ld (arg1.view.read (Elt F) f0) r1) (View.ld (arg2.view.read (Elt F) f1) r2)))
     (k0_pay25 (struck (View.ld (arg1.view.read (Elt F) f0) r1) (View.ld (arg2.view.read (Elt F) f1) r2))) k0_pay26 := rfl
  have e8 : sound_kernel.sl.r_1 c arg1 f0 = k0_pay17 (View.ld (arg1.view.read (Elt F) f0) r1) := rfl
  have l1 : View.ld (arg1.view.read (Elt F) f0) r1 = arg1.view.read (Elt F) f0 := View.ld_unit_zero zero3 _ _
  have l2 : View.ld (arg2.view.read (Elt F) f1) r2 = arg2.view.read (Elt F) f1 := View.ld_unit_zero zero2 _ _
  rw [l1] at e2 e3 e7 e8
  rw [l2] at e3 e7
  clear l1 l2
  rw [e1, e2, e3, e7, e8]
  clear e1 e2 e3 e7 e8
  rw [kth_eq, out_eq, total_eq]
  generalize kth (arg1.view.read (Elt F) f0) (arg2.view.read (Elt F) f1) = h
  generalize hA : k0_pay7 (F := F) _ _ _ = A
  generalize hD : k0_pay8 _ _ = D
  generalize hT : k0_pay9 _ _ = T
  have hm := meets (F := F) c i T (k0_pay18 (arg1.view.read (Elt F) f0)) Set.univ _ A k0_pay10 D (hD ▸ KerSel.ends_rounds _ _)
  obtain ⟨S, hS⟩ : ∃ S, tieRun T (k0_pay18 (arg1.view.read (Elt F) f0)) (rounds D) (A, k0_pay10, D) = S := ⟨_, rfl⟩
  have hw := fun {α : Type} => wp_tie (α := α) c i T (k0_pay18 (arg1.view.read (Elt F) f0)) (rounds D) A k0_pay10 D S hm hS
  rw [hS]
  clear hm hA hD hT hS
  iapply hw
  obtain ⟨S1, S2, S3⟩ := S
  dsimp only [sumOf]
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover _)).trans ?_
  exact View.canon_unit_zero zero3 _ _

end Body

end Cert.Proof.KerBody

end
-- ==== Proof.KerRun.lean ====
/-
  The kernel's selection program as a whole: the host lines around the call, the call's run, and the frame.
-/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Pipeline.Value
public import Idealize.ShloMosaic.Lib.Claim
public import Idealize.ShloMosaic.Lib.Ring
public import proofs.«01_k».proof.Proof.KerBody
public import Idealize.ShloMosaic.Lib.Tactic
public import Idealize.ShloMosaic.Lib.WordCmp

@[expose] public section

set_option maxRecDepth 16384

noncomputable section

namespace Cert.Proof.KerRun

open Cert.Kernel Cert.Kernel.Gen Cert.Proof.KerBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The host lines around the call -/

/-- The buffers' contents when the call is entered: after the host lines before it. -/
abbrev V0 (c : Dev nD) : Valuation τ sig (Elt F) := StableHlo.after (List.flatten [hostOps0, hostOps0_1]) (fun b => m (c, b))
/-- The same read at a reference. -/
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

set_option maxHeartbeats 800000 in
/-- The program is the host lines before the call, the call, the host lines after it. -/
theorem hmain (𝒱 : Variants) : Pipeline.HMainK (Ix := Unit) (Name := ℕ) (U := UR sig nD τ) (Lvl := ℕ) cfgs 0 defs₀ 𝒱 m (main (F := F)) (V m)
      (fun _ => Pipeline.chain ([hostOps1].map StableHlo.seq)) :=
  Pipeline.hmain_around cfgs 0 defs₀ 𝒱 m main [hostOps0, hostOps0_1] [hostOps1] (by simp only [List.Forall]; exact ⟨hostOps0_sub, hostOps0_1_sub⟩)
    (by simp only [List.Forall]; exact ⟨fresh0, fresh0_1⟩) main_chain

/-- The lines after the call touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  rw [List.mem_singleton] at hops
  subst hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp fresh1) op hop
/-- They write no array of the call. -/
theorem sfx_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- The host lines before the call leave the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The first operand's staging buffer holds its block at every point. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the second's. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data, the run and the frame -/

/-- The proof data: the arrays as the region finds them, the inputs left in place, the result's block at `out` of theirs. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) :
    (dats m 0 c).after 2 t = out (iblk m c 0 t) (iblk m c 1 t) := rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at a point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- Every weakly fair execution terminates, with the arrays at the proof data's contents, every other buffer at what the
    host lines leave, and every counter at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The argument ends as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 0).trans (((dats m 0 c).arrAt_in 0 rfl _).trans ((A_eq m c 0).trans (V_main_arg0 m c))), h.2⟩) (run m ρ)

end Cert.Proof.KerRun

end
-- ==== Proof.KerOut.lean ====
/-
  The kernel's selection program: its result from the blocks of its argument and of the random numbers.
-/
module

public import proofs.«01_k».proof.Proof.KerRun
public import Idealize.ShloMosaic.Lib.Pipeline.ValueKit.Geometry
public import Idealize.ShloMosaic.Lib.ValueIdxCore

@[expose] public section

noncomputable section

namespace Cert.Proof.KerOut

open Cert.Kernel Cert.Kernel.Gen Cert.Proof.KerBody Cert.Proof.KerRun
open Idealize.ShloMosaic Idealize.ShloMosaic.TcCoe Idealize.ShloMosaic.ValueIdx
open Idealize.ShloMosaic.Pipeline (Dat Cfg Window)

variable {F : FTy → Type} [BitOps F]
variable (m : (ℓ : Loc nD τ sig) → Buf (Elt F) ℓ) (ρ : Dev nD → PrngReg)

theorem index0 : ∀ t : Fin grid0.N, win0_0.index t = ![t.val / 8, 0, t.val % 8] := by decide +kernel
theorem index1 : ∀ t : Fin grid0.N, win0_1.index t = ![t.val, 0] := by decide +kernel
theorem index2 : ∀ t : Fin grid0.N, win0_2.index t = ![t.val, 0, 0] := by decide +kernel

theorem covers2 : win0_2.Covers := by decide +kernel

/-- Group `n` as a point of the grid. -/
def point (n : Fin 32) : Fin grid0.N := ⟨n.val, by rw [N_0]; exact n.isLt⟩

/-- What the call leaves: at group `n`, row `s`, lane `l` the value of that group's block. -/
def stacked (c : Dev nD) : Vec F S32x8x128 .f32 := fun i =>
  out (iblk m c 0 (point (i 0))) (iblk m c 1 (point (i 0))) (ix3 0 (i 1) (i 2))

theorem final (c : Dev nD) : (dats m 0 c).arrAt 2 (cfg0 (F := F)).N = stacked m c := by
  refine (dats m 0 c).arrAt_eq_of_covers 2 _ covers2 fun t hf y => ?_
  blk_simp
  rw [after0_2]
  unfold stacked
  let z : S1x8x128.Idx := y
  have h0 : (((win0_2.blk t).view.emb y) 0 : Fin 32).val = t.val := by blk_simp [index2 t]
  have h1 : (((win0_2.blk t).view.emb y) 1 : Fin 8).val = (z 1).val := by blk_simp [index2 t]; rfl
  have h2 : (((win0_2.blk t).view.emb y) 2 : Fin 128).val = (z 2).val := by blk_simp [index2 t]; rfl
  have hp : point ((win0_2.blk t).view.emb y 0) = t := Fin.ext h0
  have hy : ix3 (0 : Fin 1) ((win0_2.blk t).view.emb y 1 : Fin 8)
      ((win0_2.blk t).view.emb y 2 : Fin 128) = z := by
    funext a
    apply Fin.ext
    fin_cases a
    · exact (Nat.lt_one_iff.mp (z 0).isLt).symm
    · exact h1
    · exact h2
  exact (congr (congrArg (fun t => out (iblk m c 0 t) (iblk m c 1 t)) hp) hy).symm

theorem block0_at (c : Dev nD) (n : Fin 32) (r : Fin 8192) (l : Fin 128) :
    (iblk m c 0 (point n) : Vec F S1x8192x128 .f32) (ix3 0 r l)
      = (V m c main_arg0 : Vec F S4x8192x1024 .f32) (ix3 ⟨n.val / 8, by omega⟩ r ⟨n.val % 8 * 128 + l.val, by omega⟩) := by
  have e0 : (win0 0).index (point n) 0 = n.val / 8 := congrFun (index0 (point n)) 0
  have e1 : (win0 0).index (point n) 1 = 0 := congrFun (index0 (point n)) 1
  have e2 : (win0 0).index (point n) 2 = n.val % 8 := congrFun (index0 (point n)) 2
  generalize point n = t at e0 e1 e2 ⊢
  blk_simp [iblk]
  refine congrArg (V m c main_arg0) ?_
  blk_ext
  · exact e0
  · exact (congrArg (fun k => k * 8192 + r.val) e1).trans ((congrArg (· + r.val) (Nat.zero_mul 8192)).trans (Nat.zero_add _))
  · exact congrArg (fun k => k * 128 + l.val) e2

theorem block1_at (c : Dev nD) (n : Fin 32) (r : Fin 8192) (l : Fin 128) :
    (iblk m c 1 (point n) : Vec F S128x8192 .f32) (ix2 l r)
      = (V m c main_v7 : Vec F S4096x8192 .f32) (ix2 ⟨n.val * 128 + l.val, by omega⟩ r) := by
  have e0 : (win0 1).index (point n) 0 = n.val := congrFun (index1 (point n)) 0
  have e1 : (win0 1).index (point n) 1 = 0 := congrFun (index1 (point n)) 1
  generalize point n = t at e0 e1 ⊢
  blk_simp [iblk]
  refine congrArg (V m c main_v7) ?_
  blk_ext
  · exact congrArg (fun k => k * 128 + l.val) e0
  · exact (congrArg (fun k => k * 8192 + r.val) e1).trans ((congrArg (· + r.val) (Nat.zero_mul 8192)).trans (Nat.zero_add _))

/-- The sum less the 32 ones a column of zeros had been raised by. -/
def less (t w : FVec F S1x128 .f32) : FVec F S1x128 .f32 :=
  subf t (mulf (broadcast S1x128 (Scalar.ofBits .f32 0x42000000#32)) w)

/-- What the body stores, in row `s` and lane `l`. -/
theorem out_at (x : Vec F S1x8192x128 .f32) (y : Vec F S128x8192 .f32) (s : Fin 8) (l : Fin 128) :
    out x y (ix3 0 s l) = less (total x y) (k0_pay17 x) (ix2 0 l) := by
  rw [out_eq]
  generalize total x y = t
  generalize k0_pay17 x = w
  unfold k0_pay11 less
  refine (shapeCast_apply _ _ (ix3 0 s l) (ix2 s l) ?_).trans ?_
  · rw [Shape.rowMajor_val_two, Shape.rowMajor_val_three]
    simp
  · rw [broadcastTo_apply, shapeCast_self]
    intro a
    fin_cases a <;> rfl

theorem tail (W : Valuation τ sig (Elt F)) :
    StableHlo.after (hostOps1 (F := F)) W (Proc.devRef .tc main_v11)
      = shapeCast S4x1024 (shapeCast S32x128 (extractStridedSlice S32x1x128 ![0, 0, 0] (W (Proc.devRef .tc main_v8)) slices_S32x8x128_S32x1x128_0_0_0) shapeCasts_S32x1x128_S32x128) shapeCasts_S32x128_S4x1024 := by
  unfold hostOps1
  after_results
  rfl

end Cert.Proof.KerOut

end
-- ==== Proof.RefOut.lean ====
/-
  The plain reference of the selection: its result row by row from its two inputs.
-/
module

public import proofs.«01_k».proof.Proof.RefBody
public import proofs.«01_k».proof.Proof.Lane
public import Idealize.ShloMosaic.Lib.Pipeline.ValueKit.Geometry
public import Idealize.ShloMosaic.Lib.ValueIdxCore

@[expose] public section

noncomputable section

namespace Cert.Proof.RefOut

open Cert.Reference Cert.Reference.Gen Cert.Proof.RefBody
open Idealize.ShloMosaic Idealize.ShloMosaic.TcCoe Idealize.ShloMosaic.ValueIdx
open Idealize.ShloMosaic.Pipeline (Dat Cfg Window)

variable {F : FTy → Type} [BitOps F]
variable (m : (ℓ : Loc nD τ sig) → Buf (Elt F) ℓ) (ρ : Dev nD → PrngReg)

/-- The sum less the 32 ones a column of zeros had been raised by. -/
def less (t w : FVec F S1x128 .f32) : FVec F S1x128 .f32 :=
  subf t (mulf (broadcast S1x128 (Scalar.ofBits .f32 0x42000000#32)) w)

/-- A group's step sets the group's own row and leaves the others. -/
theorem step_at (acc : FVec F S32x128 .f32) (k : Fin 32) (w t : FVec F S1x128 .f32) (n : Fin 32) (l : Fin 128) :
    k0_pay5 acc (Scf.iv 0#32 1#32 k) w t (ix2 n l) = if n = k then less t w (ix2 0 l) else acc (ix2 n l) := by
  have hc : (cmpi .eq (iota .tc S32x128 32 [0] iota_S32x128_d0_w32) (broadcast S32x128 (Scf.iv 0#32 1#32 k)) : IVec S32x128 1) (ix2 n l)
      = BitVec.ofBool (decide (n = k)) := by
    have : ∀ n k : Fin 32, BitVec.ofBool (decide (BitVec.ofNat 32 n.val = Scf.iv 0#32 1#32 k.val)) = BitVec.ofBool (decide (n = k)) := by decide +kernel
    show IntOp.cmpi .eq (iota .tc S32x128 32 [0] iota_S32x128_d0_w32 (ix2 n l)) (Scf.iv 0#32 1#32 k) = _
    rw [Lane.iota_row, Idealize.ShloMosaic.WordCmp.cmpi_eq_eq]
    exact this n k
  have hb : broadcastTo S32x128 (shapeCast S1x128 (less t w) shapeCasts_S1x128_S1x128) broadcasts_S1x128_S32x128 (ix2 n l)
      = less t w (ix2 0 l) := by
    rw [broadcastTo_apply, shapeCast_self]
    intro a
    fin_cases a <;> rfl
  unfold k0_pay5
  by_cases h : n = k
  · rw [if_pos h]
    refine Eq.trans ?_ hb
    exact if_pos (by rw [hc]; simp [h])
  · rw [if_neg h]
    exact if_neg (by rw [hc]; simp [h])

theorem trips1 : k0_t1_loop.trips = 32 := by decide +kernel

/-- Row `n` after all groups. -/
theorem rows_at (X Y : Vec F S32x8192x128 .f32) (n : Fin 32) (l : Fin 128) : ∀ k : ℕ, n.val < k → k ≤ 32 →
    rowsUpTo X Y k (ix2 n l)
      = less (total (slab X (n.cast trips1.symm)) (slab Y (n.cast trips1.symm))) (k0_pay7 (slab X (n.cast trips1.symm))) (ix2 0 l)
  | 0, h, _ => absurd h (by omega)
  | k + 1, h, hk => by
    rw [rowsUpTo, dif_pos (by rw [trips1]; omega)]
    refine (step_at _ ⟨k, by omega⟩ _ _ n l).trans ?_
    by_cases e : n = ⟨k, by omega⟩
    · rw [if_pos e]
      obtain rfl : n.val = k := congrArg Fin.val e
      rfl
    · rw [if_neg e]
      exact rows_at X Y n l k (by have h' : ¬ n.val = k := fun h => e (Fin.ext h); omega) (by omega)

/-- A group's slab is its part of the input. -/
theorem slab_at (X : Vec F S32x8192x128 .f32) (n : Fin 32) (r : Fin 8192) (l : Fin 128) :
    slab X (n.cast trips1.symm) (ix3 0 r l) = X (ix3 n r l) := by
  have h0 : ∀ n : Fin 32, k0_off1 (n.cast trips1.symm) = ![n.val, 0, 0] := by decide +kernel
  unfold slab View.ld
  refine congrArg X ?_
  funext a
  apply Fin.ext
  fin_cases a
  · show (k0_off1 (n.cast trips1.symm)) 0 + 0 * 1 = n.val
    exact congrFun (h0 n) 0
  · show (k0_off1 (n.cast trips1.symm)) 1 + 1 * r.val = r.val
    rw [h0 n]; simp
  · show (k0_off1 (n.cast trips1.symm)) 2 + 1 * l.val = l.val
    rw [h0 n]; simp

theorem whole2 : win0_2.WholeAt (⟨0, by decide⟩ : Fin grid0.N) := by decide +kernel
theorem index0 : win0_0.index (⟨0, by decide⟩ : Fin grid0.N) = ![0, 0, 0] := by decide +kernel
theorem index1 : win0_1.index (⟨0, by decide⟩ : Fin grid0.N) = ![0, 0, 0] := by decide +kernel

theorem block0 (c : Dev nD) : iblk m c 0 (⟨0, by decide⟩ : Fin grid0.N) = V m c main_v10 := by
  have hz : (fun a => (win0_0.index (⟨0, by decide⟩ : Fin grid0.N)) a * main_v10.ty.shape.size a) = fun _ => 0 :=
    funext fun a => by fin_cases a <;> decide
  have hr := fun f => Memref.read_access_unit_zero (Elt F) main_v10 hz (fun a => by fin_cases a <;> decide) f
  unfold iblk
  exact hr _

theorem block1 (c : Dev nD) : iblk m c 1 (⟨0, by decide⟩ : Fin grid0.N) = V m c main_v12 := by
  have hz : (fun a => (win0_1.index (⟨0, by decide⟩ : Fin grid0.N)) a * main_v12.ty.shape.size a) = fun _ => 0 :=
    funext fun a => by fin_cases a <;> decide
  have hr := fun f => Memref.read_access_unit_zero (Elt F) main_v12 hz (fun a => by fin_cases a <;> decide) f
  unfold iblk
  exact hr _

theorem final (c : Dev nD) : (dats m 0 c).arrAt 2 cfg0.N = rowsUpTo (V m c main_v10) (V m c main_v12) 32 := by
  refine (dats m 0 c).arrAt_eq_of_after_last 2 _ whole2 _ fun j => ?_
  rw [after0_2, block0, block1]
  rfl

/-- The first input: the argument, cut into groups of 128 columns. -/
theorem entry0 (W : Valuation τ sig (Elt F)) :
    StableHlo.after (hostOps0_2 (F := F)) W (Proc.devRef .tc main_v10)
      = shapeCast S32x8192x128 (transpose S4x8x8192x128 [0, 2, 1, 3] (shapeCast S4x8192x8x128 (W (Proc.devRef .tc main_arg0)) shapeCasts_S4x8192x1024_S4x8192x8x128) transposes_S4x8192x8x128_S4x8x8192x128_0_2_1_3) shapeCasts_S4x8x8192x128_S32x8192x128 := by
  unfold hostOps0_2
  after_results
  rfl

/-- The second input: the random numbers, turned. -/
theorem entry1 (W : Valuation τ sig (Elt F)) :
    StableHlo.after (hostOps0_2 (F := F)) W (Proc.devRef .tc main_v12)
      = transpose S32x8192x128 [0, 2, 1] (shapeCast S32x128x8192 (W (Proc.devRef .tc main_v7)) shapeCasts_S4096x8192_S32x128x8192) transposes_S32x128x8192_S32x8192x128_0_2_1 := by
  unfold hostOps0_2
  after_results
  rfl

theorem tail (W : Valuation τ sig (Elt F)) :
    StableHlo.after (hostOps1 (F := F)) W (Proc.devRef .tc main_v14)
      = shapeCast S4x1024 (W (Proc.devRef .tc main_v13)) shapeCasts_S32x128_S4x1024 := by
  unfold hostOps1
  after_results
  rfl

end Cert.Proof.RefOut

end
-- ==== Proof.Words.lean ====
/-
  Words read as integers under the operations of the threshold search: halving a sum without overflow, the sign of a
  difference, the order-preserving key.
-/
module

public import proofs.«01_k».proof.Proof.Lane
public import Mathlib.Tactic.Ring

@[expose] public section

noncomputable section

namespace Cert.Proof.Words

open Idealize.ShloMosaic Cert.Proof.Lane

theorem and_one_cases (x : BitVec 32) : x &&& 1#32 = BitVec.ofNat 32 (x.toNat % 2) := by
  apply BitVec.eq_of_toNat_eq
  simp [BitVec.toNat_and, Nat.and_one_is_mod]
  omega

theorem half_toInt (x : BitVec 32) : (IntOp.shrsi .vector x 1#32).toInt = x.toInt / 2 := by
  unfold IntOp.shrsi
  rw [if_pos (by decide)]
  show (x.sshiftRight 1).toInt = _
  rw [BitVec.toInt_sshiftRight, Int.shiftRight_eq_div_pow]
  rfl

theorem sign_word (x : BitVec 32) : IntOp.shrsi .vector x 31#32 = if x.toInt < 0 then 4294967295#32 else 0#32 := by
  unfold IntOp.shrsi
  rw [if_pos (by decide)]
  show x.sshiftRight 31 = _
  apply BitVec.eq_of_toInt_eq
  rw [BitVec.toInt_sshiftRight, Int.shiftRight_eq_div_pow]
  have := toInt_bounds x
  split
  · rw [show (4294967295#32 : BitVec 32).toInt = -1 from by decide]; norm_num; omega
  · rw [show (0#32 : BitVec 32).toInt = 0 from by decide]; norm_num; omega

theorem toInt_parity (x : BitVec 32) : ((x.toNat % 2 : ℕ) : ℤ) = x.toInt % 2 := by
  rw [BitVec.toInt_eq_toNat_cond]; split <;> omega

/-- The midpoint of two words, computed from their halves. -/
theorem mid_toInt (lo hi : BitVec 32) :
    (IntOp.addi (IntOp.addi (IntOp.shrsi .vector lo 1#32) (IntOp.shrsi .vector hi 1#32)) (IntOp.andi (IntOp.andi lo hi) 1#32)).toInt
      = (lo.toInt + hi.toInt) / 2 := by
  have hb : ((IntOp.andi (IntOp.andi lo hi) 1#32).toInt : ℤ) = (lo.toInt % 2) * (hi.toInt % 2) := by
    have e : IntOp.andi (IntOp.andi lo hi) 1#32 = (lo &&& 1#32) &&& (hi &&& 1#32) := by
      show (lo &&& hi) &&& 1#32 = _
      ext i
      simp only [BitVec.getElem_and]
      cases lo[i] <;> cases hi[i] <;> simp
    rw [e, and_one_cases, and_one_cases, ← toInt_parity, ← toInt_parity]
    rcases Nat.mod_two_eq_zero_or_one lo.toNat with h1 | h1 <;> rcases Nat.mod_two_eq_zero_or_one hi.toNat with h2 | h2 <;> rw [h1, h2] <;> decide
  have h1 := half_toInt lo
  have h2 := half_toInt hi
  have b1 := toInt_bounds lo
  have b2 := toInt_bounds hi
  show (_ + _ + _ : BitVec 32).toInt = _
  rw [BitVec.toInt_add, BitVec.toInt_add, h1, h2, hb, Int.bmod_def, Int.bmod_def]
  rcases Int.emod_two_eq_zero_or_one lo.toInt with h3 | h3 <;> rcases Int.emod_two_eq_zero_or_one hi.toInt with h4 | h4 <;> rw [h3, h4] <;> omega

theorem toInt_sub_cond (x y : BitVec 32) : (x - y).toInt = (x.toInt - y.toInt).bmod (2 ^ 32) := BitVec.toInt_sub

/-- A negative word with its other bits turned over is the word the arithmetic form gives. -/
theorem key_eq (w : BitVec 32) :
    IntOp.xori w (IntOp.andi (IntOp.shrsi .vector w 31#32) 2147483647#32)
      = if w.toInt < 0 then 4294967295#32 - (w &&& 2147483647#32) else w := by
  rw [sign_word]
  show w ^^^ (_ &&& 2147483647#32) = _
  split
  · rename_i h
    rw [show (4294967295#32 &&& 2147483647#32 : BitVec 32) = 2147483647#32 from by decide,
      show (4294967295#32 : BitVec 32) = BitVec.allOnes 32 from by decide, BitVec.allOnes_sub_eq_not]
    have hm : w.msb = true := by rw [BitVec.msb_eq_toInt]; simpa using h
    ext i hi
    simp only [BitVec.getElem_xor, BitVec.getElem_not, BitVec.getElem_and]
    by_cases hi31 : i = 31
    · subst hi31
      have : w[31] = true := by rw [BitVec.msb_eq_getLsbD_last] at hm; simpa using hm
      rw [this, ← BitVec.getLsbD_eq_getElem (x := 2147483647#32) hi, show (2147483647#32 : BitVec 32).getLsbD 31 = false from by decide]; rfl
    · have h : ∀ j : Fin 32, j.val ≠ 31 → (2147483647#32 : BitVec 32).getLsbD j.val = true := by decide
      have := h ⟨i, hi⟩ hi31
      rw [← BitVec.getLsbD_eq_getElem (x := 2147483647#32) hi, this]; simp
  · simp

end Cert.Proof.Words

end
-- ==== Proof.KerThr.lean ====
/-
  The threshold the kernel finds: striking out block maxima gives a value below the thirty-second key, and halving the
  interval from there finds the thirty-second key or the end of the window under the best one.
-/
module

public import proofs.«01_k».proof.Proof.KerSel
public import proofs.«01_k».proof.Proof.Words

@[expose] public section

noncomputable section

namespace Cert.Proof.KerThr

open Idealize.ShloMosaic Idealize.ShloMosaic.ValueIdx Idealize.ShloMosaic.WordCmp Cert.Kernel Cert.Kernel.Gen Cert.Proof.Lane Cert.Proof.Order Cert.Proof.KerBody Cert.Proof.Words

/-- A loop that does the same each time is an iterate. -/
theorem fold_same {α : Type} {n : ℕ} (f : α → α) (a : α) : Scf.fold (fun (_ : Fin n) x => f x) a = f^[n] a := by
  rw [Scf.fold_eq, List.foldl_const, List.length_finRange]

/-! ## Striking out block maxima -/

section Strike

variable (v : IVec S64x128 32) (l : Fin 128)

theorem highest_ge (b : Fin 64) : lane v l b ≤ (k0_pay23 v (ix2 0 l)).toInt := by
  unfold k0_pay23
  rw [cast_row _ shapeCasts_S128_S1x128]
  exact rows_max_ge reduces_S64x128_S128 v l _ rfl b

theorem highest_mem : ∃ b : Fin 64, k0_pay23 v (ix2 0 l) = v (ix2 b l) := by
  unfold k0_pay23
  rw [cast_row _ shapeCasts_S128_S1x128]
  exact rows_max_mem reduces_S64x128_S128 v l _ rfl (by norm_num)

theorem strike_at (b : Fin 64) : k0_pay22 v (ix2 b l) = if v (ix2 b l) = k0_pay23 v (ix2 0 l) then 2147483648#32 else v (ix2 b l) := by
  show (if IntOp.cmpi .eq (v (ix2 b l)) (broadcastTo S64x128 (k0_pay23 v) broadcasts_S1x128_S64x128 (ix2 b l)) = 1#1 then 2147483648#32 else v (ix2 b l)) = _
  rw [spread_row (k0_pay23 v) broadcasts_S1x128_S64x128, cmpi_eq_eq]
  by_cases h : v (ix2 b l) = k0_pay23 v (ix2 0 l) <;> simp [h]

variable (v0 : IVec S64x128 32)

/-- After `k` strikes every entry is the first one or struck out, and at least `k` first entries exceed the highest left. -/
theorem strike_inv (k : ℕ) : (∀ b, k0_pay22^[k] v0 (ix2 b l) = v0 (ix2 b l) ∨ k0_pay22^[k] v0 (ix2 b l) = 2147483648#32)
    ∧ (-2147483648 < (k0_pay23 (k0_pay22^[k] v0) (ix2 0 l)).toInt →
      k ≤ (Finset.univ.filter fun b => (k0_pay23 (k0_pay22^[k] v0) (ix2 0 l)).toInt < lane v0 l b).card) := by
  have hmin : (2147483648#32 : BitVec 32).toInt = -2147483648 := by decide
  induction k with
  | zero => exact ⟨fun b => .inl rfl, fun _ => Nat.zero_le _⟩
  | succ k ih =>
    rw [Function.iterate_succ_apply']
    generalize k0_pay22^[k] v0 = v at ih ⊢
    obtain ⟨ih1, ih2⟩ := ih
    refine ⟨fun b => ?_, fun hM => ?_⟩
    · rw [strike_at]
      split
      · exact .inr rfl
      · exact ih1 b
    · obtain ⟨b1, h1⟩ := highest_mem (k0_pay22 v) l
      obtain ⟨b0, h0⟩ := highest_mem v l
      have hb1 := highest_ge v l b1
      unfold lane at hb1
      rw [strike_at] at h1
      have hlt : (k0_pay23 (k0_pay22 v) (ix2 0 l)).toInt < (k0_pay23 v (ix2 0 l)).toInt := by
        split at h1
        · rw [h1] at hM; omega
        · rename_i hne
          rw [h1]
          refine lt_of_le_of_ne hb1 fun e => hne (BitVec.eq_of_toInt_eq e)
      have hc := ih2 (hM.trans hlt)
      have hv0 : lane v0 l b0 = (k0_pay23 v (ix2 0 l)).toInt := by
        unfold lane
        rcases ih1 b0 with e | e
        · rw [← e, h0]
        · rw [h0, e] at hlt; omega
      generalize (k0_pay23 (k0_pay22 v) (ix2 0 l)).toInt = M' at hlt hM ⊢
      generalize (k0_pay23 v (ix2 0 l)).toInt = M at hlt hc hv0
      have hlt' : (Finset.univ.filter fun b => M < lane v0 l b).card < (Finset.univ.filter fun b => M' < lane v0 l b).card := by
        apply Finset.card_lt_card
        refine ⟨fun b hb => ?_, fun hs => ?_⟩
        · simp only [Finset.mem_filter, Finset.mem_univ, true_and] at hb ⊢
          omega
        · have := hs (Finset.mem_filter.mpr ⟨Finset.mem_univ b0, by omega⟩)
          have := (Finset.mem_filter.mp this).2
          omega
      omega

end Strike

variable {F : FTy → Type} [BitOps F] (x : Vec F S1x8192x128 .f32) (y : Vec F S128x8192 .f32) (l : Fin 128)

theorem trips1 : k0_t1_loop.trips = 32 := by decide
theorem trips2 : k0_t2_loop.trips = 30 := by decide

theorem struck_eq : struck x y = k0_pay22^[32] (k0_pay20 x y) := by
  unfold struck
  rw [fold_same, trips1]

/-- The block maxima. -/
theorem blocks_ge (b : Fin 64) (i : Fin 128) : lane (k0_pay19 x y) l (blockRow b i) ≤ lane (k0_pay20 x y) l b :=
  block_max_ge (k0_pay19 x y) shapeCasts_S8192x128_S64x128x128 reduces_S64x128x128_S64x128 rfl b l i

theorem blocks_mem (b : Fin 64) : ∃ i : Fin 128, lane (k0_pay20 x y) l b = lane (k0_pay19 x y) l (blockRow b i) := by
  obtain ⟨i, h⟩ := block_max_mem (k0_pay19 x y) shapeCasts_S8192x128_S64x128x128 reduces_S64x128x128_S64x128 rfl b l
  exact ⟨i, congrArg BitVec.toInt h⟩

/-- The best key. -/
theorem best_ge (r : Fin 8192) : lane (k0_pay19 x y) l r ≤ (k0_pay21 x y (ix2 0 l)).toInt := by
  obtain ⟨b, i, rfl⟩ := exists_block r
  exact (blocks_ge x y l b i).trans (highest_ge (k0_pay20 x y) l b)

theorem best_mem : ∃ r : Fin 8192, (k0_pay21 x y (ix2 0 l)).toInt = lane (k0_pay19 x y) l r := by
  obtain ⟨b, h⟩ := highest_mem (k0_pay20 x y) l
  obtain ⟨i, h'⟩ := blocks_mem x y l b
  exact ⟨blockRow b i, (congrArg BitVec.toInt h).trans h'⟩

/-- What is left after the strikes lies below the thirty-second key. -/
theorem left_below {r31 : Fin 8192} (h31 : pos (lane (k0_pay19 x y) l) r31 = 31) :
    (k0_pay23 (struck x y) (ix2 0 l)).toInt = -2147483648 ∨ (k0_pay23 (struck x y) (ix2 0 l)).toInt < lane (k0_pay19 x y) l r31 := by
  have hinv := (strike_inv l (k0_pay20 x y) 32).2
  rw [← struck_eq] at hinv
  have hb := toInt_bounds (k0_pay23 (struck x y) (ix2 0 l))
  generalize (k0_pay23 (struck x y) (ix2 0 l)).toInt = M at hinv hb ⊢
  rcases hb.1.lt_or_eq with h | h
  · right
    have hc := hinv h
    by_contra hn
    have h1 := over_le_pos.mpr (not_lt.mp hn)
    rw [h31] at h1
    have h2 : (Finset.univ.filter fun b => M < lane (k0_pay20 x y) l b).card ≤ over (lane (k0_pay19 x y) l) M := by
      choose f hf using fun b => blocks_mem x y l b
      apply Finset.card_le_card_of_injOn (fun b => blockRow b (f b))
      · intro b hb
        simp only [Finset.coe_filter, Finset.mem_univ, true_and, Set.mem_setOf_eq] at hb ⊢
        rw [← hf b]; exact hb
      · intro b _ b' _ e
        exact blockRow_inj e
    omega
  · exact .inl h.symm

/-! ## Halving the interval -/

section Halve

variable (key : IVec S8192x128 32) (hi0 : IVec S1x128 32) (z : IVec S1x128 1) (raw low : IVec S1x128 32) (lo hi : IVec S1x128 32)

theorem middle_at : (k0_pay2 lo hi (ix2 0 l)).toInt = ((lo (ix2 0 l)).toInt + (hi (ix2 0 l)).toInt) / 2 := mid_toInt _ _

/-- The test of one halving: thirty-two differences are negative. -/
theorem test_at : k0_pay3 key hi0 z raw low lo hi (ix2 0 l) = BitVec.ofBool (decide (32 ≤ (Finset.univ.filter fun r : Fin 8192 =>
    ((k0_pay2 lo hi (ix2 0 l)).toInt - max (lane key l r) (k0_pay1 hi0 z raw low (ix2 0 l)).toInt).bmod (2 ^ 32) < 0).card)) := by
  have hv : ∀ r : Fin 8192, shrsi (subi (broadcastTo S8192x128 (k0_pay2 lo hi) broadcasts_S1x128_S8192x128)
      (maxsi key (broadcastTo S8192x128 (k0_pay1 hi0 z raw low) broadcasts_S1x128_S8192x128))) (broadcast S8192x128 31#32) (ix2 r l)
      = if ((k0_pay2 lo hi (ix2 0 l)).toInt - max (lane key l r) (k0_pay1 hi0 z raw low (ix2 0 l)).toInt).bmod (2 ^ 32) < 0 then 4294967295#32 else 0#32 := by
    intro r
    show IntOp.shrsi .vector (broadcastTo S8192x128 (k0_pay2 lo hi) broadcasts_S1x128_S8192x128 (ix2 r l)
      - IntOp.maxsi (key (ix2 r l)) (broadcastTo S8192x128 (k0_pay1 hi0 z raw low) broadcasts_S1x128_S8192x128 (ix2 r l))) 31#32 = _
    rw [spread_row (k0_pay2 lo hi) broadcasts_S1x128_S8192x128, spread_row (k0_pay1 hi0 z raw low) broadcasts_S1x128_S8192x128, sign_word, BitVec.toInt_sub, toInt_maxsi]
    rfl
  have hs := rows_count reduces_S8192x128_S128 _ l rfl _ _ hv
  unfold k0_pay3
  show IntOp.cmpi .sle (shapeCast S1x128 (multiReductionI .add [0] S128 _ 0#32 reduces_S8192x128_S128 rfl) shapeCasts_S128_S1x128 (ix2 0 l)) 4294967264#32 = _
  rw [cast_row _ shapeCasts_S128_S1x128, hs, cmpi_sle_eq]
  refine congrArg BitVec.ofBool (decide_eq_decide.mpr ?_)
  have hle : (Finset.univ.filter fun r : Fin 8192 =>
    ((k0_pay2 lo hi (ix2 0 l)).toInt - max (lane key l r) (k0_pay1 hi0 z raw low (ix2 0 l)).toInt).bmod (2 ^ 32) < 0).card ≤ 8192 :=
    (Finset.card_le_univ _).trans (by simp)
  generalize (Finset.univ.filter fun r : Fin 8192 =>
    ((k0_pay2 lo hi (ix2 0 l)).toInt - max (lane key l r) (k0_pay1 hi0 z raw low (ix2 0 l)).toInt).bmod (2 ^ 32) < 0).card = c at hle ⊢
  rw [BitVec.toInt_mul, toInt_ofNat_small (k := c) (by omega), show (4294967295#32 : BitVec 32).toInt = -1 from by decide,
    show (4294967264#32 : BitVec 32).toInt = -32 from by decide, Int.bmod_def]
  omega

theorem lower_at : k0_pay4 key hi0 z raw low lo hi (ix2 0 l)
    = if k0_pay3 key hi0 z raw low lo hi (ix2 0 l) = 1#1 then k0_pay2 lo hi (ix2 0 l) else lo (ix2 0 l) := rfl

theorem upper_at : k0_pay5 key hi0 z raw low lo hi (ix2 0 l)
    = if k0_pay3 key hi0 z raw low lo hi (ix2 0 l) = 1#1 then hi (ix2 0 l) else k0_pay2 lo hi (ix2 0 l) := rfl

end Halve

end Cert.Proof.KerThr

end
-- ==== Proof.KerCut.lean ====
/-
  The halving of the interval: where it ends, and that the rows above and at the kernel's threshold are the rows above and
  at the greater of the thirty-second key and the window's end.
-/
module

public import proofs.«01_k».proof.Proof.KerThr
public import Mathlib.Tactic.Ring

@[expose] public section

noncomputable section

namespace Cert.Proof.KerCut

open Idealize.ShloMosaic Idealize.ShloMosaic.ValueIdx Idealize.ShloMosaic.WordCmp Cert.Kernel Cert.Kernel.Gen Cert.Proof.Lane Cert.Proof.Order Cert.Proof.KerBody Cert.Proof.Words Cert.Proof.KerThr

/-- The threshold: the thirty-second key, but no lower than the window under the best key reaches; where the window would
    reach out of the words, above every key. -/
def thr (best k32 : ℤ) : ℤ := max k32 (if -1073741824 ≤ best then best - 1073741823 else 2147483647)

section

variable (key : IVec S8192x128 32) (hi0 : IVec S1x128 32) (z : IVec S1x128 1) (raw low : IVec S1x128 32) (l : Fin 128)

/-- One halving. -/
def halve (p : IVec S1x128 32 × IVec S1x128 32) : IVec S1x128 32 × IVec S1x128 32 :=
  (k0_pay4 key hi0 z raw low p.1 p.2, k0_pay5 key hi0 z raw low p.1 p.2)

theorem test_iff (p : IVec S1x128 32 × IVec S1x128 32) : k0_pay3 key hi0 z raw low p.1 p.2 (ix2 0 l) = 1#1 ↔ 32 ≤ (Finset.univ.filter fun r : Fin 8192 =>
    (((p.1 (ix2 0 l)).toInt + (p.2 (ix2 0 l)).toInt) / 2 - max (lane key l r) (k0_pay1 hi0 z raw low (ix2 0 l)).toInt).bmod (2 ^ 32) < 0).card := by
  rw [test_at, ofBool_decide_eq_one_iff]
  simp only [middle_at]

theorem halve_fst (p : IVec S1x128 32 × IVec S1x128 32) : ((halve key hi0 z raw low p).1 (ix2 0 l)).toInt
    = if k0_pay3 key hi0 z raw low p.1 p.2 (ix2 0 l) = 1#1 then ((p.1 (ix2 0 l)).toInt + (p.2 (ix2 0 l)).toInt) / 2 else (p.1 (ix2 0 l)).toInt := by
  rw [← middle_at]
  rw [show (halve key hi0 z raw low p).1 = k0_pay4 key hi0 z raw low p.1 p.2 from by unfold halve; dsimp only, lower_at, apply_ite BitVec.toInt]

theorem halve_snd (p : IVec S1x128 32 × IVec S1x128 32) : ((halve key hi0 z raw low p).2 (ix2 0 l)).toInt
    = if k0_pay3 key hi0 z raw low p.1 p.2 (ix2 0 l) = 1#1 then (p.2 (ix2 0 l)).toInt else ((p.1 (ix2 0 l)).toInt + (p.2 (ix2 0 l)).toInt) / 2 := by
  rw [← middle_at]
  rw [show (halve key hi0 z raw low p).2 = k0_pay5 key hi0 z raw low p.1 p.2 from by unfold halve; dsimp only, upper_at, apply_ite BitVec.toInt]

/-- Inside the words: the interval keeps the thirty-second key, or is the window's lowest piece. -/
theorem inside {best : ℤ} (hbest : -1073741824 ≤ best) (hmax : ∀ r, lane key l r ≤ best) (hb : best ≤ 2147483647) {r31 : Fin 8192} (h31 : pos (lane key l) r31 = 31)
    (h0 : (k0_pay1 hi0 z raw low (ix2 0 l)).toInt < best) (h0' : best - 1073741824 ≤ (k0_pay1 hi0 z raw low (ix2 0 l)).toInt)
    (h0'' : (k0_pay1 hi0 z raw low (ix2 0 l)).toInt < lane key l r31 ∨ (k0_pay1 hi0 z raw low (ix2 0 l)).toInt = best - 1073741824)
    (p0 : IVec S1x128 32 × IVec S1x128 32) (hp1 : (p0.1 (ix2 0 l)).toInt = (k0_pay1 hi0 z raw low (ix2 0 l)).toInt) (hp2 : (p0.2 (ix2 0 l)).toInt = best)
    (k : ℕ) : k ≤ 30 →
      (k0_pay1 hi0 z raw low (ix2 0 l)).toInt ≤ (((halve key hi0 z raw low)^[k] p0).1 (ix2 0 l)).toInt
      ∧ (((halve key hi0 z raw low)^[k] p0).1 (ix2 0 l)).toInt < (((halve key hi0 z raw low)^[k] p0).2 (ix2 0 l)).toInt
      ∧ (((halve key hi0 z raw low)^[k] p0).2 (ix2 0 l)).toInt ≤ best
      ∧ lane key l r31 ≤ (((halve key hi0 z raw low)^[k] p0).2 (ix2 0 l)).toInt
      ∧ (((((halve key hi0 z raw low)^[k] p0).1 (ix2 0 l)).toInt < lane key l r31
          ∧ (((halve key hi0 z raw low)^[k] p0).2 (ix2 0 l)).toInt - (((halve key hi0 z raw low)^[k] p0).1 (ix2 0 l)).toInt ≤ 2 ^ (30 - k))
        ∨ ((((halve key hi0 z raw low)^[k] p0).1 (ix2 0 l)).toInt = best - 1073741824
          ∧ (((halve key hi0 z raw low)^[k] p0).2 (ix2 0 l)).toInt - (((halve key hi0 z raw low)^[k] p0).1 (ix2 0 l)).toInt = 2 ^ (30 - k))) := by
  induction k with
  | zero =>
    intro _
    rw [Function.iterate_zero, id, hp1, hp2]
    have := hmax r31
    norm_num
    omega
  | succ k ih =>
    intro hk
    obtain ⟨a1, a2, a3, a4, a5⟩ := ih (by omega)
    rw [Function.iterate_succ_apply', halve_fst, halve_snd]
    have ht := test_iff key hi0 z raw low l ((halve key hi0 z raw low)^[k] p0)
    generalize (halve key hi0 z raw low)^[k] p0 = p at *
    generalize (k0_pay1 hi0 z raw low (ix2 0 l)).toInt = c at *
    generalize (p.1 (ix2 0 l)).toInt = lo at *
    generalize (p.2 (ix2 0 l)).toInt = hi at *
    have hset : (Finset.univ.filter fun r : Fin 8192 => ((lo + hi) / 2 - max (lane key l r) c).bmod (2 ^ 32) < 0).card = over (lane key l) ((lo + hi) / 2) := by
      refine congrArg Finset.card (Finset.filter_congr fun r _ => ?_)
      have := hmax r
      rw [Int.bmod_def]
      rcases max_cases (lane key l r) c with ⟨h, h'⟩ | ⟨h, h'⟩ <;> rw [h] <;> omega
    rw [hset] at ht
    have hover : 32 ≤ over (lane key l) ((lo + hi) / 2) ↔ (lo + hi) / 2 < lane key l r31 := by
      rw [← not_le, ← over_le_pos (key := lane key l), h31]; omega
    rw [hover] at ht
    have hpow : (2 : ℤ) ^ (30 - k) = 2 * 2 ^ (30 - (k + 1)) := by
      rw [show 30 - k = (30 - (k + 1)) + 1 by omega, pow_succ]; ring
    have hpos : (0 : ℤ) < 2 ^ (30 - (k + 1)) := by positivity
    rw [hpow] at a5
    generalize (2 : ℤ) ^ (30 - (k + 1)) = d at *
    generalize lane key l r31 = k32 at *
    by_cases hm : (lo + hi) / 2 < k32
    · rw [if_pos (ht.mpr hm), if_pos (ht.mpr hm)]; omega
    · rw [if_neg (fun h => hm (ht.mp h)), if_neg (fun h => hm (ht.mp h))]; omega

/-- Where the window leaves the words: the interval ends above every key. -/
theorem outside {best : ℤ} (hbest : best < -1073741824) (hb : -2147483648 ≤ best) (hmax : ∀ r, lane key l r ≤ best)
    (h0 : (k0_pay1 hi0 z raw low (ix2 0 l)).toInt = best + 3221225472)
    (p0 : IVec S1x128 32 × IVec S1x128 32) (hp1 : (p0.1 (ix2 0 l)).toInt = (k0_pay1 hi0 z raw low (ix2 0 l)).toInt) (hp2 : (p0.2 (ix2 0 l)).toInt = best)
    (k : ℕ) : best < (((halve key hi0 z raw low)^[k + 2] p0).2 (ix2 0 l)).toInt
      ∧ (((halve key hi0 z raw low)^[k + 2] p0).2 (ix2 0 l)).toInt ≤ (((halve key hi0 z raw low)^[k + 2] p0).1 (ix2 0 l)).toInt := by
  have hmx : ∀ r, max (lane key l r) (best + 3221225472) = best + 3221225472 := fun r => max_eq_right (by have := hmax r; omega)
  induction k with
  | zero =>
    have t0 := test_iff key hi0 z raw low l p0
    have e1 := halve_fst key hi0 z raw low l p0
    have e2 := halve_snd key hi0 z raw low l p0
    rw [hp1, hp2, h0] at t0 e1 e2
    simp only [hmx] at t0
    have t0' : k0_pay3 key hi0 z raw low p0.1 p0.2 (ix2 0 l) = 1#1 := by
      rw [t0, Finset.filter_true_of_mem]
      · simp
      · intro r _
        rw [Int.bmod_def]; omega
    rw [if_pos t0'] at e1 e2
    have t1 := test_iff key hi0 z raw low l (halve key hi0 z raw low p0)
    rw [e1, e2, h0] at t1
    simp only [hmx] at t1
    have t1' : ¬ k0_pay3 key hi0 z raw low (halve key hi0 z raw low p0).1 (halve key hi0 z raw low p0).2 (ix2 0 l) = 1#1 := by
      rw [t1, Finset.filter_false_of_mem]
      · simp
      · intro r _
        rw [Int.bmod_def]; omega
    have f1 := halve_fst key hi0 z raw low l (halve key hi0 z raw low p0)
    have f2 := halve_snd key hi0 z raw low l (halve key hi0 z raw low p0)
    rw [e1, e2, if_neg t1'] at f1 f2
    show best < ((halve key hi0 z raw low (halve key hi0 z raw low p0)).2 (ix2 0 l)).toInt ∧ ((halve key hi0 z raw low (halve key hi0 z raw low p0)).2 (ix2 0 l)).toInt ≤ ((halve key hi0 z raw low (halve key hi0 z raw low p0)).1 (ix2 0 l)).toInt
    rw [f1, f2]
    omega
  | succ k ih =>
    rw [show k + 1 + 2 = (k + 2) + 1 from rfl, Function.iterate_succ_apply', halve_fst, halve_snd]
    generalize (halve key hi0 z raw low)^[k + 2] p0 = p at *
    split <;> omega

end

variable {F : FTy → Type} [BitOps F] (x : Vec F S1x8192x128 .f32) (y : Vec F S128x8192 .f32) (l : Fin 128)

theorem kth_iterate : kth x y = ((halve (k0_pay19 x y) (k0_pay21 x y) (k0_pay24 (struck x y)) (k0_pay25 (struck x y)) k0_pay26)^[30]
    (k0_pay1 (k0_pay21 x y) (k0_pay24 (struck x y)) (k0_pay25 (struck x y)) k0_pay26, k0_pay21 x y)).2 := by
  unfold kth ends
  refine congrArg Prod.snd ?_
  exact (fold_same (n := k0_t2_loop.trips) (halve (k0_pay19 x y) (k0_pay21 x y) (k0_pay24 (struck x y)) (k0_pay25 (struck x y)) k0_pay26) _).trans (by rw [trips2])

/-- The interval's lower end at the start. -/
theorem start_at : (k0_pay1 (k0_pay21 x y) (k0_pay24 (struck x y)) (k0_pay25 (struck x y)) k0_pay26 (ix2 0 l)).toInt
    = max (if (k0_pay23 (struck x y) (ix2 0 l)).toInt = -2147483648 then -2147483648 else (k0_pay23 (struck x y) (ix2 0 l)).toInt - 1)
      (((k0_pay21 x y (ix2 0 l)).toInt - 1073741824).bmod (2 ^ 32)) := by
  show (IntOp.maxsi (if IntOp.cmpi .eq (k0_pay23 (struck x y) (ix2 0 l)) 2147483648#32 = 1#1 then 2147483648#32 else k0_pay23 (struck x y) (ix2 0 l) - 1#32)
    (k0_pay21 x y (ix2 0 l) - 1073741824#32)).toInt = _
  rw [toInt_maxsi, BitVec.toInt_sub, show (1073741824#32 : BitVec 32).toInt = 1073741824 from by decide, cmpi_eq_eq]
  suffices hsel : (if BitVec.ofBool (decide (k0_pay23 (struck x y) (ix2 0 l) = 2147483648#32)) = 1#1 then 2147483648#32 else k0_pay23 (struck x y) (ix2 0 l) - 1#32).toInt
      = if (k0_pay23 (struck x y) (ix2 0 l)).toInt = -2147483648 then -2147483648 else (k0_pay23 (struck x y) (ix2 0 l)).toInt - 1 by rw [hsel]
  have hb := toInt_bounds (k0_pay23 (struck x y) (ix2 0 l))
  have hmin : (2147483648#32 : BitVec 32).toInt = -2147483648 := by decide
  by_cases h : k0_pay23 (struck x y) (ix2 0 l) = 2147483648#32
  · rw [if_pos (by rw [decide_eq_true h]; rfl), if_pos (by rw [h, hmin]), hmin]
  · have h' : ¬ (k0_pay23 (struck x y) (ix2 0 l)).toInt = -2147483648 := fun e => h (BitVec.eq_of_toInt_eq (e.trans hmin.symm))
    rw [if_neg (by rw [decide_eq_false h]; decide), if_neg h', BitVec.toInt_sub, show (1#32 : BitVec 32).toInt = 1 from by decide, Int.bmod_def]
    omega

/-- The kernel's threshold parts the rows as the stated one does. -/
theorem kth_spec {r31 : Fin 8192} (h31 : pos (lane (k0_pay19 x y) l) r31 = 31) (r : Fin 8192) :
    ((kth x y (ix2 0 l)).toInt < lane (k0_pay19 x y) l r ↔ thr (k0_pay21 x y (ix2 0 l)).toInt (lane (k0_pay19 x y) l r31) < lane (k0_pay19 x y) l r)
    ∧ (lane (k0_pay19 x y) l r = (kth x y (ix2 0 l)).toInt ↔ lane (k0_pay19 x y) l r = thr (k0_pay21 x y (ix2 0 l)).toInt (lane (k0_pay19 x y) l r31)) := by
  have hbb := toInt_bounds (k0_pay21 x y (ix2 0 l))
  have hmax := best_ge x y l
  have hleft := left_below x y l h31
  obtain ⟨rb, hrb⟩ := best_mem x y l
  have hs := start_at x y l
  have hw := toInt_bounds (k0_pay23 (struck x y) (ix2 0 l))
  have hlb := toInt_bounds (k0_pay19 x y (ix2 r31 l))
  have hrr := toInt_bounds (k0_pay19 x y (ix2 r l))
  have hr31 := hmax r31
  have hr := hmax r
  have hlb' : lane (k0_pay19 x y) l r31 = (k0_pay19 x y (ix2 r31 l)).toInt := rfl
  have hrr' : lane (k0_pay19 x y) l r = (k0_pay19 x y (ix2 r l)).toInt := rfl
  rw [← hlb'] at hlb
  rw [← hrr'] at hrr
  rw [kth_iterate]
  rw [Int.bmod_def] at hs
  unfold thr
  by_cases hcase : -1073741824 ≤ (k0_pay21 x y (ix2 0 l)).toInt
  · have := inside (k0_pay19 x y) (k0_pay21 x y) (k0_pay24 (struck x y)) (k0_pay25 (struck x y)) k0_pay26 l hcase hmax hbb.2 h31
      (by rw [hs]; refine max_lt ?_ (by omega); split <;> omega) (by rw [hs]; exact le_trans (by omega) (le_max_right _ _))
      (by rw [hs]; rcases max_cases (if (k0_pay23 (struck x y) (ix2 0 l)).toInt = -2147483648 then -2147483648 else (k0_pay23 (struck x y) (ix2 0 l)).toInt - 1) _ with ⟨e, e'⟩ | ⟨e, e'⟩
          · rw [e]; revert e'; split <;> intro e' <;> omega
          · rw [e]; right; omega)
      (k0_pay1 (k0_pay21 x y) (k0_pay24 (struck x y)) (k0_pay25 (struck x y)) k0_pay26, k0_pay21 x y) (by dsimp only) (by dsimp only) 30 le_rfl
    rw [if_pos hcase]
    generalize (((halve (k0_pay19 x y) (k0_pay21 x y) (k0_pay24 (struck x y)) (k0_pay25 (struck x y)) k0_pay26)^[30]
      (k0_pay1 (k0_pay21 x y) (k0_pay24 (struck x y)) (k0_pay25 (struck x y)) k0_pay26, k0_pay21 x y)).2 (ix2 0 l)).toInt = H at this ⊢
    generalize (((halve (k0_pay19 x y) (k0_pay21 x y) (k0_pay24 (struck x y)) (k0_pay25 (struck x y)) k0_pay26)^[30]
      (k0_pay1 (k0_pay21 x y) (k0_pay24 (struck x y)) (k0_pay25 (struck x y)) k0_pay26, k0_pay21 x y)).1 (ix2 0 l)).toInt = L at this ⊢
    have h0 : (k0_pay21 x y (ix2 0 l)).toInt - 1073741824 ≤ (k0_pay1 (k0_pay21 x y) (k0_pay24 (struck x y)) (k0_pay25 (struck x y)) k0_pay26 (ix2 0 l)).toInt := by
      rw [hs]; exact le_trans (by omega) (le_max_right _ _)
    have hH : H = max (lane (k0_pay19 x y) l r31) ((k0_pay21 x y (ix2 0 l)).toInt - 1073741823) := by
      norm_num at this
      rcases max_cases (lane (k0_pay19 x y) l r31) ((k0_pay21 x y (ix2 0 l)).toInt - 1073741823) with ⟨e, e'⟩ | ⟨e, e'⟩ <;> rw [e] <;> omega
    rw [hH]
    exact ⟨Iff.rfl, Iff.rfl⟩
  · have := outside (k0_pay19 x y) (k0_pay21 x y) (k0_pay24 (struck x y)) (k0_pay25 (struck x y)) k0_pay26 l (not_le.mp hcase) hbb.1 hmax
      (by rw [hs]; refine (max_eq_right ?_).trans (by omega); split <;> omega)
      (k0_pay1 (k0_pay21 x y) (k0_pay24 (struck x y)) (k0_pay25 (struck x y)) k0_pay26, k0_pay21 x y) (by dsimp only) (by dsimp only) 28
    rw [if_neg hcase, max_eq_right (by omega)]
    have hH : (k0_pay21 x y (ix2 0 l)).toInt < (((halve (k0_pay19 x y) (k0_pay21 x y) (k0_pay24 (struck x y)) (k0_pay25 (struck x y)) k0_pay26)^[30]
      (k0_pay1 (k0_pay21 x y) (k0_pay24 (struck x y)) (k0_pay25 (struck x y)) k0_pay26, k0_pay21 x y)).2 (ix2 0 l)).toInt := this.1
    clear this hs
    generalize (((halve (k0_pay19 x y) (k0_pay21 x y) (k0_pay24 (struck x y)) (k0_pay25 (struck x y)) k0_pay26)^[30]
      (k0_pay1 (k0_pay21 x y) (k0_pay24 (struck x y)) (k0_pay25 (struck x y)) k0_pay26, k0_pay21 x y)).2 (ix2 0 l)).toInt = H at hH ⊢
    generalize lane (k0_pay19 x y) l r = kr at *
    generalize lane (k0_pay19 x y) l r31 = k31 at *
    generalize (k0_pay21 x y (ix2 0 l)).toInt = best at *
    clear hlb' hrr' hrb
    constructor <;> constructor <;> intro h <;> omega

end Cert.Proof.KerCut

end
-- ==== Proof.KerSteps.lean ====
/-
  The tie loop's state after `j` steps, read at one lane: how many rows are still wanted, the row taken last, and the mask
  of the row the next step takes.
-/
module

public import proofs.«01_k».proof.Proof.KerSel

@[expose] public section

noncomputable section

namespace Cert.Proof.KerSteps

open Idealize.ShloMosaic Idealize.ShloMosaic.ValueIdx Idealize.ShloMosaic.WordCmp Cert.Kernel Cert.Kernel.Gen Cert.Proof.Lane Cert.Proof.Order Cert.Proof.KerBody Cert.Proof.KerSel

variable {F : FTy → Type} [BitOps F] (key : IVec S8192x128 32) (h : IVec S1x128 32) (t : FVec F S8192x128 .f32) (a0 : FVec F S1x128 .f32) (l : Fin 128)

/-- The state after `j` steps. -/
def after (j : ℕ) : Ties F := (tieStep (k0_pay9 key h) t)^[j] (a0, k0_pay10, k0_pay8 key h)

theorem after_succ (j : ℕ) : after key h t a0 (j + 1) = tieStep (k0_pay9 key h) t (after key h t a0 j) := Function.iterate_succ_apply' _ _ _

theorem tieRun_iterate (tie : IVec S8192x128 1) (k : ℕ) : ∀ s : Ties F, tieRun tie t k s = (tieStep tie t)^[k] s := by
  induction k with
  | zero => intro s; rfl
  | succ k ih => intro s; rw [tieRun_succ, ih, Function.iterate_succ_apply]

/-- The row a step takes, when the rows before it are known. -/
theorem takes (prev need : IVec S1x128 32) (j : ℕ) (hC : over (lane key l) (h (ix2 0 l)).toInt ≤ 31)
    (hneed : (need (ix2 0 l)).toInt = max (32 - (over (lane key l) (h (ix2 0 l)).toInt : ℤ) - j) 0)
    (hprev : over (lane key l) (h (ix2 0 l)).toInt + j ≤ 32 → ∀ r : Fin 8192, lane key l r = (h (ix2 0 l)).toInt →
      ((prev (ix2 0 l)).toInt < r.val ↔ over (lane key l) (h (ix2 0 l)).toInt + j ≤ pos (lane key l) r)) (r : Fin 8192) :
    BitVec.ofNat 32 r.val = k0_pay13 rows (k0_pay9 key h) prev need (ix2 0 l)
      ↔ lane key l r = (h (ix2 0 l)).toInt ∧ pos (lane key l) r = over (lane key l) (h (ix2 0 l)).toInt + j ∧ over (lane key l) (h (ix2 0 l)).toInt + j < 32 := by
  rw [step_row l (k0_pay9 key h) prev need _ (tied_at key h l) r]
  have hol : ∀ r', over (lane key l) (h (ix2 0 l)).toInt ≤ pos (lane key l) r' ↔ lane key l r' ≤ (h (ix2 0 l)).toInt := fun r' => over_le_pos
  generalize over (lane key l) (h (ix2 0 l)).toInt = C at *
  generalize (h (ix2 0 l)).toInt = H at *
  have hn : 0 < (need (ix2 0 l)).toInt ↔ C + j < 32 := by omega
  rw [hn]
  by_cases hj : C + j < 32
  · have hprev := hprev (by omega)
    constructor
    · rintro ⟨⟨h1, h2, -⟩, h4⟩
      refine ⟨h1, ?_, hj⟩
      have h2 := (hprev r h1).mp h2
      obtain ⟨rs, hrs⟩ := exists_pos (key := lane key l) (i := C + j) (by omega)
      have hk := key_le_of_pos_le (key := lane key l) (hrs.trans_le h2)
      have hs : lane key l rs = H := le_antisymm ((hol rs).mp (by omega)) (h1 ▸ hk)
      have hle := h4 rs ⟨hs, (hprev rs hs).mpr hrs.ge, hj⟩
      have : ¬ pos (lane key l) rs < pos (lane key l) r := by
        rw [pos_lt_iff_of_eq (hs.trans h1.symm)]; exact not_lt.mpr hle
      omega
    · rintro ⟨h1, h2, -⟩
      refine ⟨⟨h1, (hprev r h1).mpr h2.ge, hj⟩, ?_⟩
      rintro r' ⟨h1', h2', -⟩
      have h2' := (hprev r' h1').mp h2'
      have : ¬ pos (lane key l) r' < pos (lane key l) r := by omega
      rw [pos_lt_iff_of_eq (h1'.trans h1.symm)] at this
      exact not_lt.mp this
  · constructor
    · rintro ⟨⟨-, -, h3⟩, -⟩; exact absurd h3 hj
    · rintro ⟨-, -, h3⟩; exact absurd h3 hj

/-- With no tied row left a step takes the number past the last row. -/
theorem takes_none (prev need : IVec S1x128 32)
    (hno : ∀ r : Fin 8192, ¬ (lane key l r = (h (ix2 0 l)).toInt ∧ (prev (ix2 0 l)).toInt < r.val)) :
    k0_pay13 rows (k0_pay9 key h) prev need (ix2 0 l) = 8192#32 := by
  have e : k0_pay13 rows (k0_pay9 key h) prev need (ix2 0 l) = multiReductionI .minsi [0] S128 (select (andi (andi (k0_pay9 key h) (cmpi .sgt rows (broadcastTo S8192x128 prev broadcasts_S1x128_S8192x128)))
      (broadcastTo S8192x128 (cmpi .sgt need (broadcast S1x128 0#32)) broadcasts_S1x128_S8192x128)) rows (broadcast S8192x128 8192#32)) 2147483647#32 reduces_S8192x128_S128 rfl (ix1 l) :=
    by unfold k0_pay13; exact cast_row (multiReductionI .minsi [0] S128 (select (andi (andi (k0_pay9 key h) (cmpi .sgt rows (broadcastTo S8192x128 prev broadcasts_S1x128_S8192x128)))
      (broadcastTo S8192x128 (cmpi .sgt need (broadcast S1x128 0#32)) broadcasts_S1x128_S8192x128)) rows (broadcast S8192x128 8192#32)) 2147483647#32 reduces_S8192x128_S128 rfl) shapeCasts_S128_S1x128 l
  rw [e]
  refine least_none (n := 8192) (by norm_num) reduces_S8192x128_S128 iota_S8192x128_d0_w32 _ l fun r => ?_
  show IntOp.andi (IntOp.andi (k0_pay9 key h (ix2 r l)) (IntOp.cmpi .sgt (iota .tc S8192x128 32 [0] iota_S8192x128_d0_w32 (ix2 r l)) (broadcastTo S8192x128 prev broadcasts_S1x128_S8192x128 (ix2 r l))))
      (broadcastTo S8192x128 (cmpi .sgt need (broadcast S1x128 0#32)) broadcasts_S1x128_S8192x128 (ix2 r l)) = _
  rw [spread_row prev broadcasts_S1x128_S8192x128, iota_row, tied_at, cmpi_sgt_eq, andi_ofBool, toInt_ofNat_small (by have := r.isLt; omega), ← Bool.decide_and, decide_eq_false (hno r)]
  exact BitVec.zero_and

/-- The state after `j` steps: rows still wanted, and the tied rows not yet taken. -/
theorem after_inv (hC : over (lane key l) (h (ix2 0 l)).toInt ≤ 31) (j : ℕ) :
    ((after key h t a0 j).2.2 (ix2 0 l)).toInt = max (32 - (over (lane key l) (h (ix2 0 l)).toInt : ℤ) - j) 0
    ∧ (over (lane key l) (h (ix2 0 l)).toInt + j ≤ 32 → ∀ r : Fin 8192, lane key l r = (h (ix2 0 l)).toInt →
      (((after key h t a0 j).2.1 (ix2 0 l)).toInt < r.val ↔ over (lane key l) (h (ix2 0 l)).toInt + j ≤ pos (lane key l) r)) := by
  induction j with
  | zero =>
    refine ⟨?_, fun _ r hr => ?_⟩
    · show (k0_pay8 key h (ix2 0 l)).toInt = _
      rw [toInt_wanted]; omega
    · show (4294967295#32 : BitVec 32).toInt < _ ↔ _
      rw [show (4294967295#32 : BitVec 32).toInt = -1 from by decide, Nat.add_zero, over_le_pos]
      constructor
      · intro _; exact hr.le
      · intro _; omega
  | succ j ih =>
    rw [after_succ]
    generalize after key h t a0 j = s at ih ⊢
    obtain ⟨ih1, ih2⟩ := ih
    have e2 : (tieStep (k0_pay9 key h) t s).2.2 = k0_pay15 s.2.2 := by unfold tieStep; dsimp only
    have e1 : (tieStep (k0_pay9 key h) t s).2.1 = k0_pay13 rows (k0_pay9 key h) s.2.1 s.2.2 := by unfold tieStep; dsimp only
    rw [e1, e2]
    refine ⟨?_, fun hj r hr => ?_⟩
    · rw [toInt_less _ _ (by rw [ih1]; omega), ih1]; push_cast; omega
    · have ht := takes key h l s.2.1 s.2.2 j hC ih1 ih2
      have ih2 := ih2 (by omega)
      by_cases hex : ∃ rs : Fin 8192, lane key l rs = (h (ix2 0 l)).toInt ∧ pos (lane key l) rs = over (lane key l) (h (ix2 0 l)).toInt + j
      · obtain ⟨rs, h1, h2⟩ := hex
        rw [← (ht rs).mpr ⟨h1, h2, by omega⟩, toInt_ofNat_small (by have := rs.isLt; omega)]
        have := pos_lt_iff_of_eq (h1.trans hr.symm)
        rw [h2] at this
        rw [Nat.cast_lt, ← Fin.lt_def, ← this]
        omega
      · have hno : ∀ r' : Fin 8192, lane key l r' = (h (ix2 0 l)).toInt → ¬ over (lane key l) (h (ix2 0 l)).toInt + j ≤ pos (lane key l) r' := by
          intro r' h1 h2
          obtain ⟨rs, hrs⟩ := exists_pos (key := lane key l) (i := over (lane key l) (h (ix2 0 l)).toInt + j) (by omega)
          have hk := key_le_of_pos_le (key := lane key l) (hrs.trans_le h2)
          have hs : lane key l rs = (h (ix2 0 l)).toInt := le_antisymm (over_le_pos.mp (by omega)) (h1 ▸ hk)
          exact hex ⟨rs, hs, hrs⟩
        rw [takes_none key h l s.2.1 s.2.2 (fun r' h' => hno r' h'.1 ((ih2 r' h'.1).mp h'.2)), show (8192#32 : BitVec 32).toInt = 8192 from by decide]
        have := hno r hr
        have := r.isLt
        constructor <;> intro _ <;> omega

/-- The mask of step `j`: the tied row whose position is the number above the threshold and `j`. -/
theorem mask_at (hC : over (lane key l) (h (ix2 0 l)).toInt ≤ 31) (j : ℕ) (r : Fin 8192) :
    cmpi .eq rows (broadcastTo S8192x128 (k0_pay13 rows (k0_pay9 key h) (after key h t a0 j).2.1 (after key h t a0 j).2.2) broadcasts_S1x128_S8192x128) (ix2 r l)
      = BitVec.ofBool (decide (lane key l r = (h (ix2 0 l)).toInt ∧ pos (lane key l) r = over (lane key l) (h (ix2 0 l)).toInt + j ∧ over (lane key l) (h (ix2 0 l)).toInt + j < 32)) := by
  obtain ⟨i1, i2⟩ := after_inv key h t a0 l hC j
  show IntOp.cmpi .eq (iota .tc S8192x128 32 [0] iota_S8192x128_d0_w32 (ix2 r l)) (broadcastTo S8192x128 _ broadcasts_S1x128_S8192x128 (ix2 r l)) = _
  rw [spread_row _ broadcasts_S1x128_S8192x128, iota_row, cmpi_eq_eq]
  exact congrArg BitVec.ofBool (decide_eq_decide.mpr (takes key h l _ _ j hC i1 i2 r))

end Cert.Proof.KerSteps

end
-- ==== Proof.RefSel.lean ====
/-
  The reference's ranks, threshold and step masks, read at one lane.
-/
module

public import proofs.«01_k».proof.Proof.RefBody
public import proofs.«01_k».proof.Proof.Lane
public import proofs.«01_k».proof.Proof.Order

@[expose] public section

noncomputable section

namespace Cert.Proof.RefSel

open Idealize.ShloMosaic Idealize.ShloMosaic.ValueIdx Idealize.ShloMosaic.WordCmp Cert.Reference Cert.Reference.Gen Cert.Proof.Lane Cert.Proof.Order Cert.Proof.RefBody

/-- What holds at the start and is kept by every trip of a fold holds after it. -/
theorem fold_inv {α : Type} (n : ℕ) : ∀ (g : Fin n → α → α) (a : α) (P : ℕ → α → Prop), P 0 a →
    (∀ (t : Fin n) (x : α), P t x → P (t + 1) (g t x)) → P n (Scf.fold g a) := by
  induction n with
  | zero => intro g a P h0 _; rw [Scf.fold_eq]; exact h0
  | succ n ih =>
    intro g a P h0 hs
    rw [Scf.fold_eq, List.finRange_succ_last, List.foldl_append, List.foldl_map]
    have := ih (fun t => g t.castSucc) a P h0 (fun t x hx => hs t.castSucc x hx)
    rw [Scf.fold_eq] at this
    exact hs (Fin.last n) _ this

theorem iv_word (k : ℕ) : Scf.iv 0#32 1#32 k = BitVec.ofNat 32 k := by
  unfold Scf.iv
  rw [BitVec.mul_one, BitVec.zero_add]

theorem ofNat_eq_iff {a b : ℕ} (ha : a < 4294967296) (hb : b < 4294967296) : BitVec.ofNat 32 a = BitVec.ofNat 32 b ↔ a = b := by
  constructor
  · intro e
    have := congrArg BitVec.toNat e
    rw [BitVec.toNat_ofNat, BitVec.toNat_ofNat] at this
    norm_num at this
    omega
  · rintro rfl; rfl

theorem trips2 : k0_t2_loop.trips = 32 := by decide
theorem trips3 : k0_t3_loop.trips = 32 := by decide

variable {F : FTy → Type} [BitOps F] (x y : Vec F S1x8192x128 .f32)

/-- The rank of a row after `k` picks. -/
def rankAt (κ : Fin 8192 → ℤ) (k : ℕ) (r : Fin 8192) : ℕ := if pos κ r < k then pos κ r else 8192

theorem rankAt_lt (κ : Fin 8192 → ℤ) (k : ℕ) (r : Fin 8192) : rankAt κ k r ≤ 8192 := by
  unfold rankAt
  have := pos_lt (key := κ) r
  split <;> omega

/-- One pick gives the next rank to the row at that position. -/
theorem pick_at (t : Fin k0_t2_loop.trips) (a : IVec S8192x128 32)
    (ha : ∀ r l, a (ix2 r l) = BitVec.ofNat 32 (rankAt (lane (k0_pay9 x y) l) t r)) (r : Fin 8192) (l : Fin 128) :
    k0_pay11 rows 2147483648#32 x y t a (ix2 r l) = BitVec.ofNat 32 (rankAt (lane (k0_pay9 x y) l) (t + 1) r) := by
  have ht : t.val < 32 := lt_of_lt_of_eq t.isLt trips2
  obtain ⟨rs, hrs⟩ := exists_pos (key := lane (k0_pay9 x y) l) (i := t.val) (by omega : t.val < 8192)
  -- the rows not yet picked
  have hfree : ∀ r', cmpi .eq a (broadcast S8192x128 8192#32) (ix2 r' l) = BitVec.ofBool (decide (t.val ≤ pos (lane (k0_pay9 x y) l) r')) := by
    intro r'
    show IntOp.cmpi .eq (a (ix2 r' l)) 8192#32 = _
    rw [cmpi_eq_eq, ha]
    refine congrArg BitVec.ofBool (decide_eq_decide.mpr ?_)
    have h1 := rankAt_lt (lane (k0_pay9 x y) l) t r'
    have h2 := ofNat_eq_iff (a := rankAt (lane (k0_pay9 x y) l) t r') (b := 8192) (by omega) (by norm_num)
    rw [h2]
    have := pos_lt (key := lane (k0_pay9 x y) l) r'
    unfold rankAt
    split <;> omega
  -- the greatest key not yet picked
  have hsel : ∀ r', select (cmpi .eq a (broadcast S8192x128 8192#32)) (k0_pay9 x y) (broadcast S8192x128 2147483648#32) (ix2 r' l)
      = if t.val ≤ pos (lane (k0_pay9 x y) l) r' then k0_pay9 x y (ix2 r' l) else 2147483648#32 := by
    intro r'
    show (if cmpi .eq a (broadcast S8192x128 8192#32) (ix2 r' l) = 1#1 then _ else _) = _
    rw [hfree]
    by_cases h : t.val ≤ pos (lane (k0_pay9 x y) l) r' <;> simp [h] <;> rfl
  have hge := rows_max_ge reduces_S8192x128_S128 (select (cmpi .eq a (broadcast S8192x128 8192#32)) (k0_pay9 x y) (broadcast S8192x128 2147483648#32)) l 2147483648#32 rfl rs
  obtain ⟨rm, hrm⟩ := rows_max_mem reduces_S8192x128_S128 (select (cmpi .eq a (broadcast S8192x128 8192#32)) (k0_pay9 x y) (broadcast S8192x128 2147483648#32)) l 2147483648#32 rfl (by norm_num)
  have hmax : multiReductionI .maxsi [0] S128 (select (cmpi .eq a (broadcast S8192x128 8192#32)) (k0_pay9 x y) (broadcast S8192x128 2147483648#32)) 2147483648#32 reduces_S8192x128_S128 rfl (ix1 l)
      = k0_pay9 x y (ix2 rs l) := by
    rw [hsel, if_pos hrs.ge] at hge
    rw [hsel] at hrm
    refine BitVec.eq_of_toInt_eq (le_antisymm ?_ hge)
    rw [hrm]
    split
    · rename_i h
      exact key_le_of_pos_le (key := lane (k0_pay9 x y) l) (a := rs) (b := rm) (hrs.trans_le h)
    · rw [show (2147483648#32 : BitVec 32).toInt = -2147483648 from by decide]
      exact (toInt_bounds _).1
  have hq : ∀ r', andi (cmpi .eq a (broadcast S8192x128 8192#32)) (cmpi .eq (k0_pay9 x y) (broadcastTo S8192x128 (shapeCast S1x128
      (multiReductionI .maxsi [0] S128 (select (cmpi .eq a (broadcast S8192x128 8192#32)) (k0_pay9 x y) (broadcast S8192x128 2147483648#32)) 2147483648#32 reduces_S8192x128_S128 rfl)
      shapeCasts_S128_S1x128) broadcasts_S1x128_S8192x128)) (ix2 r' l)
      = BitVec.ofBool (decide (t.val ≤ pos (lane (k0_pay9 x y) l) r' ∧ lane (k0_pay9 x y) l r' = lane (k0_pay9 x y) l rs)) := by
    intro r'
    show IntOp.andi (cmpi .eq a (broadcast S8192x128 8192#32) (ix2 r' l)) (IntOp.cmpi .eq (k0_pay9 x y (ix2 r' l)) (broadcastTo S8192x128 (shapeCast S1x128
      (multiReductionI .maxsi [0] S128 _ 2147483648#32 reduces_S8192x128_S128 rfl)
      shapeCasts_S128_S1x128) broadcasts_S1x128_S8192x128 (ix2 r' l))) = _
    rw [hfree, spread_row _ broadcasts_S1x128_S8192x128, cast_row _ shapeCasts_S128_S1x128, hmax, cmpi_eq_eq, andi_ofBool]
    refine congrArg BitVec.ofBool ?_
    have : (k0_pay9 x y (ix2 r' l) = k0_pay9 x y (ix2 rs l)) ↔ (lane (k0_pay9 x y) l r' = lane (k0_pay9 x y) l rs) :=
      ⟨fun e => congrArg BitVec.toInt e, fun e => BitVec.eq_of_toInt_eq e⟩
    rw [decide_eq_decide.mpr this, Bool.decide_and]
  have hrow := least_row (n := 8192) (by norm_num) (by norm_num) reduces_S8192x128_S128 iota_S8192x128_d0_w32 _ l _ hq r
  have hnext : IntOp.cmpi .eq (iota .tc S8192x128 32 [0] iota_S8192x128_d0_w32 (ix2 r l)) (broadcastTo S8192x128 (shapeCast S1x128 (multiReductionI .minsi [0] S128
      (select (andi (cmpi .eq a (broadcast S8192x128 8192#32)) (cmpi .eq (k0_pay9 x y) (broadcastTo S8192x128 (shapeCast S1x128
      (multiReductionI .maxsi [0] S128 (select (cmpi .eq a (broadcast S8192x128 8192#32)) (k0_pay9 x y) (broadcast S8192x128 2147483648#32)) 2147483648#32 reduces_S8192x128_S128 rfl)
      shapeCasts_S128_S1x128) broadcasts_S1x128_S8192x128))) rows (broadcast S8192x128 8192#32)) 2147483647#32 reduces_S8192x128_S128 rfl) shapeCasts_S128_S1x128) broadcasts_S1x128_S8192x128 (ix2 r l))
      = BitVec.ofBool (decide (r = rs)) := by
    rw [spread_row _ broadcasts_S1x128_S8192x128, cast_row _ shapeCasts_S128_S1x128, iota_row, cmpi_eq_eq]
    refine congrArg BitVec.ofBool (decide_eq_decide.mpr (hrow.trans ?_))
    constructor
    · rintro ⟨⟨h1, h2⟩, h3⟩
      have h4 := h3 rs ⟨hrs.ge, rfl⟩
      rcases before_or_eq (key := lane (k0_pay9 x y) l) hrs h1 with h5 | h5 | ⟨-, h5⟩
      · exact h5
      · omega
      · exact absurd h4 (not_le.mpr h5)
    · rintro rfl
      refine ⟨⟨hrs.ge, rfl⟩, fun r' h' => ?_⟩
      rcases before_or_eq (key := lane (k0_pay9 x y) l) hrs h'.1 with h5 | h5 | ⟨-, h5⟩
      · exact h5.ge
      · omega
      · exact h5.le
  have hout : k0_pay11 rows 2147483648#32 x y t a (ix2 r l) = if BitVec.ofBool (decide (r = rs)) = 1#1 then Scf.iv 0#32 1#32 t else a (ix2 r l) := by
    rw [← hnext]; rfl
  rw [hout, iv_word, ha]
  have hpr : r = rs ↔ pos (lane (k0_pay9 x y) l) r = t.val := ⟨fun e => e ▸ hrs, fun e => pos_injective (e.trans hrs.symm)⟩
  by_cases h : r = rs
  · rw [if_pos (by simp [h])]
    unfold rankAt
    rw [if_pos (by rw [hpr.mp h]; omega), hpr.mp h]
  · rw [if_neg (by simp [h])]
    have h' := mt hpr.mpr h
    unfold rankAt
    refine congrArg (BitVec.ofNat 32) ?_
    by_cases h1 : pos (lane (k0_pay9 x y) l) r < t.val
    · rw [if_pos h1, if_pos (by omega)]
    · rw [if_neg h1, if_neg (by omega)]

/-- The ranks after the thirty-two picks. -/
theorem picks_at (r : Fin 8192) (l : Fin 128) : picks x y (ix2 r l) = BitVec.ofNat 32 (rankAt (lane (k0_pay9 x y) l) 32 r) := by
  have := fold_inv k0_t2_loop.trips (fun t a => k0_pay11 rows 2147483648#32 x y t a) k0_pay10
    (fun k a => ∀ r l, a (ix2 r l) = BitVec.ofNat 32 (rankAt (lane (k0_pay9 x y) l) k r)) (fun r l => rfl) (fun t a ha r l => pick_at x y t a ha r l)
  exact (this r l).trans (by rw [trips2])

/-! ## The threshold -/

variable (l : Fin 128)

/-- The best key of a lane, as the reference takes it. -/
def best : ℤ := (multiReductionI .maxsi [0] S128 (k0_pay9 x y) 2147483648#32 reduces_S8192x128_S128 rfl (ix1 l)).toInt

theorem best_ge (r : Fin 8192) : lane (k0_pay9 x y) l r ≤ best x y l := rows_max_ge reduces_S8192x128_S128 (k0_pay9 x y) l _ rfl r

theorem best_mem : ∃ r : Fin 8192, best x y l = lane (k0_pay9 x y) l r := by
  obtain ⟨r, h⟩ := rows_max_mem reduces_S8192x128_S128 (k0_pay9 x y) l 2147483648#32 rfl (by norm_num)
  exact ⟨r, congrArg BitVec.toInt h⟩

/-- The window's lower end. -/
theorem low_at : (k0_pay12 x y (ix2 0 l)).toInt = if -1073741824 ≤ best x y l then best x y l - 1073741823 else 2147483647 := by
  have e : k0_pay12 x y (ix2 0 l) = if IntOp.cmpi .sge (shapeCast S1x128 (multiReductionI .maxsi [0] S128 (k0_pay9 x y) 2147483648#32 reduces_S8192x128_S128 rfl) shapeCasts_S128_S1x128 (ix2 0 l)) 3221225472#32 = 1#1
      then shapeCast S1x128 (multiReductionI .maxsi [0] S128 (k0_pay9 x y) 2147483648#32 reduces_S8192x128_S128 rfl) shapeCasts_S128_S1x128 (ix2 0 l) - 1073741823#32 else 2147483647#32 := rfl
  rw [e, cast_row _ shapeCasts_S128_S1x128, cmpi_sge_eq]
  unfold best
  have hb := toInt_bounds (multiReductionI .maxsi [0] S128 (k0_pay9 x y) 2147483648#32 reduces_S8192x128_S128 rfl (ix1 l))
  generalize multiReductionI .maxsi [0] S128 (k0_pay9 x y) 2147483648#32 reduces_S8192x128_S128 rfl (ix1 l) = w at hb ⊢
  have h1 : (3221225472#32 : BitVec 32).toInt = -1073741824 := by decide
  have h2 : (1073741823#32 : BitVec 32).toInt = 1073741823 := by decide
  have h3 : (2147483647#32 : BitVec 32).toInt = 2147483647 := by decide
  rw [h1]
  by_cases h : -1073741824 ≤ w.toInt
  · rw [if_pos (by rw [decide_eq_true h]; rfl), if_pos h, BitVec.toInt_sub, h2, Int.bmod_def]; omega
  · rw [if_neg (by rw [decide_eq_false h]; decide), if_neg h, h3]

/-- The threshold: the greater of the thirty-second key and the window's lower end. -/
def cutAt (r31 : Fin 8192) : ℤ := max (lane (k0_pay9 x y) l r31) (k0_pay12 x y (ix2 0 l)).toInt

variable {l}

/-- The rows above the threshold. -/
theorem above_at {r31 : Fin 8192} (h31 : pos (lane (k0_pay9 x y) l) r31 = 31) (r : Fin 8192) :
    k0_pay2 (k0_pay9 x y) (picks x y) (k0_pay12 x y) (ix2 r l) = BitVec.ofBool (decide (cutAt x y l r31 < lane (k0_pay9 x y) l r)) := by
  have hsel : ∀ r', select (cmpi .eq (picks x y) (broadcast S8192x128 31#32)) (k0_pay9 x y) (broadcast S8192x128 2147483648#32) (ix2 r' l)
      = if r' = r31 then k0_pay9 x y (ix2 r' l) else 2147483648#32 := by
    intro r'
    show (if IntOp.cmpi .eq (picks x y (ix2 r' l)) 31#32 = 1#1 then _ else _) = _
    rw [picks_at, cmpi_eq_eq]
    have h1 : BitVec.ofNat 32 (rankAt (lane (k0_pay9 x y) l) 32 r') = 31#32 ↔ r' = r31 := by
      have := rankAt_lt (lane (k0_pay9 x y) l) 32 r'
      rw [ofNat_eq_iff (by omega) (by norm_num)]
      unfold rankAt
      constructor
      · intro e
        split at e
        · exact pos_injective (e.trans h31.symm)
        · omega
      · rintro rfl
        rw [if_pos (by omega), h31]
    have h1' : decide (BitVec.ofNat 32 (rankAt (lane (k0_pay9 x y) l) 32 r') = 31#32) = decide (r' = r31) := decide_eq_decide.mpr h1
    rw [h1']
    by_cases h : r' = r31 <;> simp [h] <;> rfl
  have hge := rows_max_ge reduces_S8192x128_S128 (select (cmpi .eq (picks x y) (broadcast S8192x128 31#32)) (k0_pay9 x y) (broadcast S8192x128 2147483648#32)) l 2147483648#32 rfl r31
  obtain ⟨rm, hrm⟩ := rows_max_mem reduces_S8192x128_S128 (select (cmpi .eq (picks x y) (broadcast S8192x128 31#32)) (k0_pay9 x y) (broadcast S8192x128 2147483648#32)) l 2147483648#32 rfl (by norm_num)
  have hmax : multiReductionI .maxsi [0] S128 (select (cmpi .eq (picks x y) (broadcast S8192x128 31#32)) (k0_pay9 x y) (broadcast S8192x128 2147483648#32)) 2147483648#32 reduces_S8192x128_S128 rfl (ix1 l)
      = k0_pay9 x y (ix2 r31 l) := by
    rw [hsel, if_pos rfl] at hge
    rw [hsel] at hrm
    refine BitVec.eq_of_toInt_eq (le_antisymm ?_ hge)
    rw [hrm]
    split
    · rename_i h
      rw [h]
    · rw [show (2147483648#32 : BitVec 32).toInt = -2147483648 from by decide]
      exact (toInt_bounds _).1
  have e : k0_pay2 (k0_pay9 x y) (picks x y) (k0_pay12 x y) (ix2 r l) = IntOp.cmpi .sgt (k0_pay9 x y (ix2 r l)) (broadcastTo S8192x128 (maxsi (shapeCast S1x128
      (multiReductionI .maxsi [0] S128 (select (cmpi .eq (picks x y) (broadcast S8192x128 31#32)) (k0_pay9 x y) (broadcast S8192x128 2147483648#32)) 2147483648#32 reduces_S8192x128_S128 rfl)
      shapeCasts_S128_S1x128) (k0_pay12 x y)) broadcasts_S1x128_S8192x128 (ix2 r l)) := rfl
  have e2 : maxsi (shapeCast S1x128
      (multiReductionI .maxsi [0] S128 (select (cmpi .eq (picks x y) (broadcast S8192x128 31#32)) (k0_pay9 x y) (broadcast S8192x128 2147483648#32)) 2147483648#32 reduces_S8192x128_S128 rfl)
      shapeCasts_S128_S1x128) (k0_pay12 x y) (ix2 0 l) = IntOp.maxsi (k0_pay9 x y (ix2 r31 l)) (k0_pay12 x y (ix2 0 l)) :=
    congrArg (fun w => IntOp.maxsi w (k0_pay12 x y (ix2 0 l))) ((cast_row _ shapeCasts_S128_S1x128 l).trans hmax)
  rw [e, spread_row _ broadcasts_S1x128_S8192x128, e2, cmpi_sgt_eq, toInt_maxsi]
  rfl

/-- How many rows lie above the threshold. -/
theorem count_at {r31 : Fin 8192} (h31 : pos (lane (k0_pay9 x y) l) r31 = 31) :
    shapeCast S1x128 (multiReductionI .add [0] S128 (extui 32 (k0_pay2 (k0_pay9 x y) (picks x y) (k0_pay12 x y)) natLt_1_32) 0#32 reduces_S8192x128_S128 rfl) shapeCasts_S128_S1x128 (ix2 0 l)
      = BitVec.ofNat 32 (over (lane (k0_pay9 x y) l) (cutAt x y l r31)) := by
  rw [cast_row _ shapeCasts_S128_S1x128]
  exact sum_ones reduces_S8192x128_S128 _ natLt_1_32 l _ (above_at x y h31)

/-- The row of step `t`: the row at the threshold whose position is the number above it and `t`. -/
theorem chosen_at {r31 : Fin 8192} (h31 : pos (lane (k0_pay9 x y) l) r31 = 31) (t : ℕ) (ht : t < 32) (r : Fin 8192) :
    andi (cmpi .eq (picks x y) (broadcastTo S8192x128 (addi (shapeCast S1x128 (multiReductionI .add [0] S128 (extui 32 (k0_pay2 (k0_pay9 x y) (picks x y) (k0_pay12 x y)) natLt_1_32) 0#32 reduces_S8192x128_S128 rfl) shapeCasts_S128_S1x128)
        (broadcast S1x128 (Scf.iv 0#32 1#32 t))) broadcasts_S1x128_S8192x128))
      (cmpi .sge (k0_pay9 x y) (broadcastTo S8192x128 (k0_pay12 x y) broadcasts_S1x128_S8192x128)) (ix2 r l)
    = BitVec.ofBool (decide (lane (k0_pay9 x y) l r = cutAt x y l r31 ∧ pos (lane (k0_pay9 x y) l) r = over (lane (k0_pay9 x y) l) (cutAt x y l r31) + t
        ∧ over (lane (k0_pay9 x y) l) (cutAt x y l r31) + t < 32)) := by
  show IntOp.andi (IntOp.cmpi .eq (picks x y (ix2 r l)) (broadcastTo S8192x128 (addi (shapeCast S1x128 (multiReductionI .add [0] S128 (extui 32 (k0_pay2 (k0_pay9 x y) (picks x y) (k0_pay12 x y)) natLt_1_32) 0#32 reduces_S8192x128_S128 rfl) shapeCasts_S128_S1x128)
        (broadcast S1x128 (Scf.iv 0#32 1#32 t))) broadcasts_S1x128_S8192x128 (ix2 r l)))
      (IntOp.cmpi .sge (k0_pay9 x y (ix2 r l)) (broadcastTo S8192x128 (k0_pay12 x y) broadcasts_S1x128_S8192x128 (ix2 r l))) = _
  have e2 : addi (shapeCast S1x128 (multiReductionI .add [0] S128 (extui 32 (k0_pay2 (k0_pay9 x y) (picks x y) (k0_pay12 x y)) natLt_1_32) 0#32 reduces_S8192x128_S128 rfl) shapeCasts_S128_S1x128)
        (broadcast S1x128 (Scf.iv 0#32 1#32 t)) (ix2 0 l) = BitVec.ofNat 32 (over (lane (k0_pay9 x y) l) (cutAt x y l r31) + t) :=
    (congrArg₂ (fun a b : BitVec 32 => a + b) (count_at x y h31) (iv_word t)).trans (BitVec.ofNat_add _ _).symm
  rw [spread_row _ broadcasts_S1x128_S8192x128, spread_row _ broadcasts_S1x128_S8192x128, e2, picks_at, cmpi_eq_eq, cmpi_sge_eq, andi_ofBool, ← Bool.decide_and]
  refine congrArg BitVec.ofBool (decide_eq_decide.mpr ?_)
  have hC : over (lane (k0_pay9 x y) l) (cutAt x y l r31) ≤ 31 := by
    rw [← h31]; exact over_le_pos.mpr (le_max_left _ _)
  have hrk := rankAt_lt (lane (k0_pay9 x y) l) 32 r
  have hol : over (lane (k0_pay9 x y) l) (cutAt x y l r31) ≤ pos (lane (k0_pay9 x y) l) r ↔ lane (k0_pay9 x y) l r ≤ cutAt x y l r31 := over_le_pos
  rw [ofNat_eq_iff (by omega) (by omega)]
  have h31' : pos (lane (k0_pay9 x y) l) r ≤ 31 → lane (k0_pay9 x y) l r31 ≤ lane (k0_pay9 x y) l r := fun h => key_le_of_pos_le (h.trans_eq h31.symm)
  have hlow : (k0_pay12 x y (ix2 0 l)).toInt ≤ cutAt x y l r31 := le_max_right _ _
  have hcut := max_choice (lane (k0_pay9 x y) l r31) (k0_pay12 x y (ix2 0 l)).toInt
  show rankAt (lane (k0_pay9 x y) l) 32 r = _ ∧ (k0_pay12 x y (ix2 0 l)).toInt ≤ lane (k0_pay9 x y) l r ↔ _
  unfold rankAt
  change cutAt x y l r31 = _ ∨ cutAt x y l r31 = _ at hcut
  generalize over (lane (k0_pay9 x y) l) (cutAt x y l r31) = C at *
  generalize cutAt x y l r31 = H at *
  constructor
  · rintro ⟨h1, h2⟩
    split at h1 <;> omega
  · rintro ⟨h1, h2, h3⟩
    rw [if_pos (by omega)]
    omega

end Cert.Proof.RefSel

end
-- ==== Proof.Same.lean ====
/-
  One block: the kernel's sum of sampled weights is the reference's, from the same weights and the same random numbers laid
  out the other way round.
-/
module

public import proofs.«01_k».proof.Proof.KerCut
public import proofs.«01_k».proof.Proof.KerSteps
public import proofs.«01_k».proof.Proof.RefSel

@[expose] public section

noncomputable section

namespace Cert.Proof.Same

open Idealize.ShloMosaic Idealize.ShloMosaic.ValueIdx Idealize.ShloMosaic.WordCmp Cert.Kernel Cert.Proof.Lane Cert.Proof.Order Cert.Proof.Words

variable {F : FTy → Type} [BitOps F] (x : Vec F S1x8192x128 .f32) (y : Vec F S128x8192 .f32) (y' : Vec F S1x8192x128 .f32)

theorem relu_same : Kernel.Gen.k0_pay16 x = Reference.Gen.k0_pay6 x := by
  unfold Kernel.Gen.k0_pay16 Reference.Gen.k0_pay6; rfl

theorem mask_same : Kernel.Gen.k0_pay17 x = Reference.Gen.k0_pay7 x := by
  unfold Kernel.Gen.k0_pay17 Reference.Gen.k0_pay7; rw [relu_same]

theorem weight_same : Kernel.Gen.k0_pay18 x = Reference.Gen.k0_pay8 x := by
  unfold Kernel.Gen.k0_pay18 Reference.Gen.k0_pay8; rw [relu_same, mask_same]

/-- The two layouts of the random numbers. -/
def Turned : Prop := ∀ (r : Fin 8192) (l : Fin 128), y (ix2 l r) = y' (ix3 0 r l)

variable {y y'} (hy : Turned y y')
include hy

theorem noise_same : transpose S8192x128 [1, 0] (shapeCast S128x8192 y Kernel.Gen.shapeCasts_S128x8192_S128x8192) Kernel.Gen.transposes_S128x8192_p1_0_S8192x128
    = shapeCast S8192x128 y' Reference.Gen.shapeCasts_S1x8192x128_S8192x128 := by
  funext i
  obtain ⟨r, l, rfl⟩ : ∃ (r : Fin 8192) (l : Fin 128), i = ix2 r l := ⟨i 0, i 1, eq_ix2 i⟩
  rw [transpose_apply _ _ _ _ (ix2 l r) (by intro b; match b with | ⟨0, _⟩ => rfl | ⟨1, _⟩ => rfl),
    shapeCast_apply y _ _ (ix2 l r) rfl,
    shapeCast_apply y' _ _ (ix3 0 r l) (by rw [Shape.rowMajor_val_two, Shape.rowMajor_val_three]; simp [ix2, ix3])]
  exact hy r l

/-- The keys are the same. -/
theorem key_same : Kernel.Gen.k0_pay19 x y = Reference.Gen.k0_pay9 x y' := by
  unfold Kernel.Gen.k0_pay19 Reference.Gen.k0_pay9
  rw [weight_same, ← noise_same hy]
  funext i
  show IntOp.xori (_ : BitVec 32) (IntOp.andi (IntOp.shrsi .vector _ 31#32) 2147483647#32) = if IntOp.cmpi .slt _ 0#32 = 1#1 then _ - (_ &&& 2147483647#32) else _
  rw [key_eq, cmpi_slt_eq]
  refine if_congr ?_ rfl rfl
  rw [ofBool_decide_eq_one_iff, show (0#32 : BitVec 32).toInt = 0 from by decide]

theorem best_same (l : Fin 128) : (Kernel.Gen.k0_pay21 x y (ix2 0 l)).toInt = RefSel.best x y' l := by
  obtain ⟨r1, h1⟩ := KerThr.best_mem x y l
  obtain ⟨r2, h2⟩ := RefSel.best_mem x y' l
  have g1 := KerThr.best_ge x y l r2
  have g2 := RefSel.best_ge x y' l r1
  rw [key_same x hy] at h1 g1
  omega

theorem cut_same (l : Fin 128) (r31 : Fin 8192) :
    KerCut.thr (Kernel.Gen.k0_pay21 x y (ix2 0 l)).toInt (lane (Kernel.Gen.k0_pay19 x y) l r31) = RefSel.cutAt x y' l r31 := by
  unfold KerCut.thr RefSel.cutAt
  rw [RefSel.low_at, best_same x hy, key_same x hy]

/-- At every lane the two thresholds part the rows in the same way. -/
theorem parts (l : Fin 128) : ∃ r31 : Fin 8192, pos (lane (Reference.Gen.k0_pay9 x y') l) r31 = 31 ∧
    (∀ r, (KerBody.kth x y (ix2 0 l)).toInt < lane (Reference.Gen.k0_pay9 x y') l r ↔ RefSel.cutAt x y' l r31 < lane (Reference.Gen.k0_pay9 x y') l r)
    ∧ (∀ r, lane (Reference.Gen.k0_pay9 x y') l r = (KerBody.kth x y (ix2 0 l)).toInt ↔ lane (Reference.Gen.k0_pay9 x y') l r = RefSel.cutAt x y' l r31)
    ∧ over (lane (Reference.Gen.k0_pay9 x y') l) (KerBody.kth x y (ix2 0 l)).toInt = over (lane (Reference.Gen.k0_pay9 x y') l) (RefSel.cutAt x y' l r31)
    ∧ over (lane (Reference.Gen.k0_pay9 x y') l) (RefSel.cutAt x y' l r31) ≤ 31 := by
  obtain ⟨r31, h31⟩ := exists_pos (key := lane (Reference.Gen.k0_pay9 x y') l) (i := 31) (by norm_num)
  have hs := fun r => KerCut.kth_spec x y l (r31 := r31) (by rw [key_same x hy]; exact h31) r
  simp only [cut_same x hy] at hs
  simp only [key_same x hy] at hs
  refine ⟨r31, h31, fun r => (hs r).1, fun r => (hs r).2, ?_, ?_⟩
  · unfold over
    exact congrArg Finset.card (Finset.filter_congr fun r _ => (hs r).1)
  · rw [← h31]; exact over_le_pos.mpr (le_max_left _ _)

/-- The rows above the threshold are the same. -/
theorem above_same : Kernel.Gen.k0_pay6 (Reference.Gen.k0_pay9 x y') (KerBody.kth x y)
    = Reference.Gen.k0_pay2 (Reference.Gen.k0_pay9 x y') (RefBody.picks x y') (Reference.Gen.k0_pay12 x y') := by
  funext i
  obtain ⟨r, l, rfl⟩ : ∃ (r : Fin 8192) (l : Fin 128), i = ix2 r l := ⟨i 0, i 1, eq_ix2 i⟩
  obtain ⟨r31, h31, h1, -, -, -⟩ := parts x hy l
  rw [KerSel.above_at, RefSel.above_at x y' h31]
  exact congrArg BitVec.ofBool (decide_eq_decide.mpr (h1 r))

theorem first_same : Kernel.Gen.k0_pay7 (Reference.Gen.k0_pay8 x) (Reference.Gen.k0_pay9 x y') (KerBody.kth x y)
    = Reference.Gen.k0_pay3 (Reference.Gen.k0_pay8 x) (Reference.Gen.k0_pay9 x y') (RefBody.picks x y') (Reference.Gen.k0_pay12 x y') := by
  unfold Kernel.Gen.k0_pay7 Reference.Gen.k0_pay3
  rw [above_same x hy]

omit hy in
/-- One step of the reference: what it adds. -/
def added (x : Vec F S1x8192x128 .f32) (y' : Vec F S1x8192x128 .f32) (t : ℕ) : FVec F S1x128 .f32 :=
  shapeCast S1x128 (multiReduction .add [0] S128 (select (andi (cmpi .eq (RefBody.picks x y') (broadcastTo S8192x128 (addi (shapeCast S1x128 (multiReductionI .add [0] S128 (extui 32 (Reference.Gen.k0_pay2 (Reference.Gen.k0_pay9 x y') (RefBody.picks x y') (Reference.Gen.k0_pay12 x y')) Reference.Gen.natLt_1_32) 0#32 Reference.Gen.reduces_S8192x128_S128 rfl) Reference.Gen.shapeCasts_S128_S1x128)
            (broadcast S1x128 (Scf.iv 0#32 1#32 t))) Reference.Gen.broadcasts_S1x128_S8192x128))
          (cmpi .sge (Reference.Gen.k0_pay9 x y') (broadcastTo S8192x128 (Reference.Gen.k0_pay12 x y') Reference.Gen.broadcasts_S1x128_S8192x128)))
          (Reference.Gen.k0_pay8 x) (broadcast S8192x128 (Scalar.ofBits .f32 0x00000000#32))) 0x00000000#32 Reference.Gen.reduces_S8192x128_S128 (.inl rfl) rfl) Reference.Gen.shapeCasts_S128_S1x128

omit hy in
/-- One step of the reference. -/
theorem step_ref (t : Fin Reference.k0_t3_loop.trips) (a : FVec F S1x128 .f32) :
    Reference.Gen.k0_pay4 (Reference.Gen.k0_pay8 x) (Reference.Gen.k0_pay9 x y') (RefBody.picks x y') (Reference.Gen.k0_pay12 x y') t a
      = Scalar.select (Scalar.cmpi .slt (Scf.iv 0#32 1#32 t) (extractAt ![0, 0, 0] (Kernel.Gen.k0_pay12 (subi (broadcast S1x128 32#32)
          (shapeCast S1x128 (multiReductionI .add [0] S128 (extui 32 (Reference.Gen.k0_pay2 (Reference.Gen.k0_pay9 x y') (RefBody.picks x y') (Reference.Gen.k0_pay12 x y')) Reference.Gen.natLt_1_32) 0#32 Reference.Gen.reduces_S8192x128_S128 rfl) Reference.Gen.shapeCasts_S128_S1x128)))
          Kernel.Gen.inpos_S1x1x1_p0_0_0))
        (addf a (added x y' t)) a := by
  unfold Reference.Gen.k0_pay4 Kernel.Gen.k0_pay12 added
  dsimp only

omit hy in
/-- One step of the kernel. -/
theorem step_ker (tie : IVec S8192x128 1) (t : FVec F S8192x128 .f32) (a : FVec F S1x128 .f32) (b d : IVec S1x128 32) :
    Kernel.Gen.k0_pay14 KerBody.rows tie t a b d
      = addf a (shapeCast S1x128 (multiReduction .add [0] S128 (select (cmpi .eq KerBody.rows (broadcastTo S8192x128 (Kernel.Gen.k0_pay13 KerBody.rows tie b d) Kernel.Gen.broadcasts_S1x128_S8192x128))
          t (broadcast S8192x128 (Scalar.ofBits .f32 0x00000000#32))) 0x00000000#32 Kernel.Gen.reduces_S8192x128_S128 (.inl rfl) rfl) Kernel.Gen.shapeCasts_S128_S1x128) := by
  unfold Kernel.Gen.k0_pay14
  dsimp only

/-- The rows still wanted, as the reference counts them. -/
theorem wanted_same : Kernel.Gen.k0_pay8 (Reference.Gen.k0_pay9 x y') (KerBody.kth x y)
    = subi (broadcast S1x128 32#32) (shapeCast S1x128 (multiReductionI .add [0] S128 (extui 32 (Reference.Gen.k0_pay2 (Reference.Gen.k0_pay9 x y') (RefBody.picks x y') (Reference.Gen.k0_pay12 x y')) Reference.Gen.natLt_1_32) 0#32 Reference.Gen.reduces_S8192x128_S128 rfl) Reference.Gen.shapeCasts_S128_S1x128) := by
  unfold Kernel.Gen.k0_pay8
  rw [above_same x hy]

/-- The mask of step `j` is the same. -/
theorem chosen_same (t : FVec F S8192x128 .f32) (a0 : FVec F S1x128 .f32) (j : ℕ) (hj : j < 32) :
    cmpi .eq KerBody.rows (broadcastTo S8192x128 (Kernel.Gen.k0_pay13 KerBody.rows (Kernel.Gen.k0_pay9 (Reference.Gen.k0_pay9 x y') (KerBody.kth x y))
        (KerSteps.after (Reference.Gen.k0_pay9 x y') (KerBody.kth x y) t a0 j).2.1 (KerSteps.after (Reference.Gen.k0_pay9 x y') (KerBody.kth x y) t a0 j).2.2) Kernel.Gen.broadcasts_S1x128_S8192x128)
      = andi (cmpi .eq (RefBody.picks x y') (broadcastTo S8192x128 (addi (shapeCast S1x128 (multiReductionI .add [0] S128 (extui 32 (Reference.Gen.k0_pay2 (Reference.Gen.k0_pay9 x y') (RefBody.picks x y') (Reference.Gen.k0_pay12 x y')) Reference.Gen.natLt_1_32) 0#32 Reference.Gen.reduces_S8192x128_S128 rfl) Reference.Gen.shapeCasts_S128_S1x128)
            (broadcast S1x128 (Scf.iv 0#32 1#32 j))) Reference.Gen.broadcasts_S1x128_S8192x128))
          (cmpi .sge (Reference.Gen.k0_pay9 x y') (broadcastTo S8192x128 (Reference.Gen.k0_pay12 x y') Reference.Gen.broadcasts_S1x128_S8192x128)) := by
  funext i
  obtain ⟨r, l, rfl⟩ : ∃ (r : Fin 8192) (l : Fin 128), i = ix2 r l := ⟨i 0, i 1, eq_ix2 i⟩
  obtain ⟨r31, h31, -, h2, h3, h4⟩ := parts x hy l
  have hC : over (lane (Reference.Gen.k0_pay9 x y') l) (KerBody.kth x y (ix2 0 l)).toInt ≤ 31 := by rw [h3]; exact h4
  refine (KerSteps.mask_at (Reference.Gen.k0_pay9 x y') (KerBody.kth x y) t a0 l hC j r).trans ?_
  refine Eq.trans ?_ (RefSel.chosen_at x y' h31 j hj r).symm
  refine congrArg BitVec.ofBool (decide_eq_decide.mpr ?_)
  rw [h3, h2 r]

/-- The number of steps is at most thirty-two. -/
theorem rounds_le : KerBody.rounds (Kernel.Gen.k0_pay8 (Reference.Gen.k0_pay9 x y') (KerBody.kth x y)) ≤ 32 := by
  unfold KerBody.rounds
  obtain ⟨l, h⟩ := KerSel.most_mem (Kernel.Gen.k0_pay8 (Reference.Gen.k0_pay9 x y') (KerBody.kth x y))
  rw [h, KerSel.toInt_wanted]
  omega

/-- The kernel's state after `j` steps, from the reference's first sum. -/
def state (x : Vec F S1x8192x128 .f32) (y : Vec F S128x8192 .f32) (y' : Vec F S1x8192x128 .f32) (j : ℕ) : KerBody.Ties F :=
  KerSteps.after (Reference.Gen.k0_pay9 x y') (KerBody.kth x y) (Reference.Gen.k0_pay8 x)
    (Reference.Gen.k0_pay3 (Reference.Gen.k0_pay8 x) (Reference.Gen.k0_pay9 x y') (RefBody.picks x y') (Reference.Gen.k0_pay12 x y')) j

theorem state_succ (j : ℕ) (hj : j < 32) : (state x y y' (j + 1)).1 = addf (state x y y' j).1 (added x y' j) := by
  unfold state
  rw [KerSteps.after_succ]
  unfold KerBody.tieStep
  dsimp only
  rw [step_ker, chosen_same x hy _ _ j hj]
  unfold added
  with_reducible rfl

theorem step_taken (t : Fin Reference.k0_t3_loop.trips) (a : FVec F S1x128 .f32)
    (h : t.val < KerBody.rounds (Kernel.Gen.k0_pay8 (Reference.Gen.k0_pay9 x y') (KerBody.kth x y))) :
    Reference.Gen.k0_pay4 (Reference.Gen.k0_pay8 x) (Reference.Gen.k0_pay9 x y') (RefBody.picks x y') (Reference.Gen.k0_pay12 x y') t a = addf a (added x y' t) := by
  rw [step_ref, ← wanted_same x hy]
  unfold KerBody.rounds at h
  have ht : t.val < 32 := lt_of_lt_of_eq t.isLt RefSel.trips3
  generalize extractAt ![0, 0, 0] (Kernel.Gen.k0_pay12 (Kernel.Gen.k0_pay8 (Reference.Gen.k0_pay9 x y') (KerBody.kth x y))) Kernel.Gen.inpos_S1x1x1_p0_0_0 = w at h ⊢
  generalize addf a (added x y' t) = b
  refine if_pos ?_
  show IntOp.cmpi .slt _ _ = 1#1
  rw [cmpi_slt_eq, ofBool_decide_eq_one_iff, RefSel.iv_word, toInt_ofNat_small (k := t.val) (by omega)]
  omega

theorem step_left (t : Fin Reference.k0_t3_loop.trips) (a : FVec F S1x128 .f32)
    (h : ¬ t.val < KerBody.rounds (Kernel.Gen.k0_pay8 (Reference.Gen.k0_pay9 x y') (KerBody.kth x y))) :
    Reference.Gen.k0_pay4 (Reference.Gen.k0_pay8 x) (Reference.Gen.k0_pay9 x y') (RefBody.picks x y') (Reference.Gen.k0_pay12 x y') t a = a := by
  rw [step_ref, ← wanted_same x hy]
  unfold KerBody.rounds at h
  have ht : t.val < 32 := lt_of_lt_of_eq t.isLt RefSel.trips3
  generalize extractAt ![0, 0, 0] (Kernel.Gen.k0_pay12 (Kernel.Gen.k0_pay8 (Reference.Gen.k0_pay9 x y') (KerBody.kth x y))) Kernel.Gen.inpos_S1x1x1_p0_0_0 = w at h ⊢
  generalize addf a (added x y' t) = b
  refine if_neg ?_
  show ¬ IntOp.cmpi .slt _ _ = 1#1
  rw [cmpi_slt_eq, ofBool_decide_eq_one_iff, RefSel.iv_word, toInt_ofNat_small (k := t.val) (by omega)]
  omega

/-- The reference's loop stands, after `k` steps, where the kernel's loop stands after as many, and stays where that ends. -/
theorem fold_same (R : ℕ) (hR : R = KerBody.rounds (Kernel.Gen.k0_pay8 (Reference.Gen.k0_pay9 x y') (KerBody.kth x y))) :
    RefBody.total x y' = (state x y y' R).1 := by
  have hfold := RefSel.fold_inv Reference.k0_t3_loop.trips
    (fun t a => Reference.Gen.k0_pay4 (Reference.Gen.k0_pay8 x) (Reference.Gen.k0_pay9 x y') (RefBody.picks x y') (Reference.Gen.k0_pay12 x y') t a)
    (Reference.Gen.k0_pay3 (Reference.Gen.k0_pay8 x) (Reference.Gen.k0_pay9 x y') (RefBody.picks x y') (Reference.Gen.k0_pay12 x y'))
    (fun k a => a = (state x y y' (min k R)).1)
    (by rw [Nat.zero_min]; unfold state KerSteps.after; rw [Function.iterate_zero_apply])
    (by
      intro t a ha
      have ht : t.val < 32 := lt_of_lt_of_eq t.isLt RefSel.trips3
      by_cases h : t.val < R
      · rw [step_taken x hy t a (hR ▸ h), Nat.min_eq_left h, state_succ x hy _ ht]
        rw [Nat.min_eq_left h.le] at ha
        rw [← ha]
      · rw [step_left x hy t a (hR ▸ h), Nat.min_eq_right (by omega)]
        rw [Nat.min_eq_right (by omega)] at ha
        exact ha)
  have hend : min Reference.k0_t3_loop.trips R = R := by
    rw [RefSel.trips3]; exact Nat.min_eq_right (hR ▸ rounds_le x hy)
  rw [hend] at hfold
  unfold RefBody.total
  exact hfold

omit hy in
theorem total_iter (key : IVec S8192x128 32) (h : IVec S1x128 32) (t : FVec F S8192x128 .f32) (a0 : FVec F S1x128 .f32) (R : ℕ) :
    KerBody.sumOf (KerBody.tieRun (Kernel.Gen.k0_pay9 key h) t R (a0, Kernel.Gen.k0_pay10, Kernel.Gen.k0_pay8 key h)) = (KerSteps.after key h t a0 R).1 := by
  unfold KerBody.sumOf KerSteps.after
  rw [KerSteps.tieRun_iterate]

omit hy in
theorem total_state : KerBody.total x y
    = (KerSteps.after (Kernel.Gen.k0_pay19 x y) (KerBody.kth x y) (Kernel.Gen.k0_pay18 x) (Kernel.Gen.k0_pay7 (Kernel.Gen.k0_pay18 x) (Kernel.Gen.k0_pay19 x y) (KerBody.kth x y))
        (KerBody.rounds (Kernel.Gen.k0_pay8 (Kernel.Gen.k0_pay19 x y) (KerBody.kth x y)))).1 :=
  (KerBody.total_eq x y).trans (total_iter _ _ _ _ _)

/-- The sums are the same. -/
theorem total_same : KerBody.total x y = RefBody.total x y' := by
  refine (total_state x).trans ?_
  rw [key_same x hy, weight_same, first_same x hy]
  refine Eq.trans ?_ (fold_same x hy _ rfl).symm
  unfold state
  with_reducible rfl

end Cert.Proof.Same

end
-- ==== Proof.Twin.lean ====
/-
  Two programs whose host lines are the same, one for one, leave the same values in the buffers they write.
-/
module

public import Idealize.ShloMosaic.Lib.StableHlo.Run
public import Idealize.ShloMosaic.Lib.Claim

@[expose] public section

namespace Cert.Proof.Twin

open Idealize.ShloMosaic Idealize.ShloMosaic.StableHlo Idealize.ShloMosaic.TcCoe

variable {τ τ' : Topo} {sig sig' : RefSig} {Val : EltTy → Type} {T Ta Tb Ty : BufTy}

/-- The value a typed reference reads. -/
def get (V : Valuation τ sig Val) (x : TRef sig T) : T.Contents Val := x.ofBuf (V (Proc.devRef .tc x.ref))

/-- The reference names buffer number `k` of the main memory. -/
def At (x : Ref sig .tc) (k : ℕ) : Prop := x.space = .hbm ∧ x.idx.val = k

theorem At.eq {x y : Ref sig .tc} {k : ℕ} (hx : At x k) (hy : At y k) : x = y := by
  obtain ⟨s, i, hi⟩ := x
  obtain ⟨s', i', hi'⟩ := y
  obtain ⟨h1, h2⟩ := hx
  obtain ⟨h3, h4⟩ := hy
  dsimp only at h1 h2 h3 h4
  subst h1
  subst h3
  obtain rfl : i = i' := Fin.ext (h2.trans h4.symm)
  rfl

theorem At.num {x : Ref sig .tc} {k l : ℕ} (hx : At x k) (hy : At x l) : k = l := hx.2.symm.trans hy.2

/-- The buffers numbered `lo` to `n` hold the same values in both programs. -/
def Agree (lo n : ℕ) (V : Valuation τ sig Val) (V' : Valuation τ' sig' Val) : Prop :=
  ∀ (T : BufTy) (x : TRef sig T) (x' : TRef sig' T) (k : ℕ), lo ≤ k → k ≤ n → At x.ref k → At x'.ref k → get V x = get V' x'

theorem ty_same {x : TRef sig T} {y : TRef sig Ty} (h : x.ref = y.ref) : T = Ty := by
  rw [← x.ty_eq, ← y.ty_eq, h]

theorem ref_same {x y : TRef sig T} (h : x.ref = y.ref) : x = y := by
  obtain ⟨x, _, _, _⟩ := x
  obtain ⟨y, _, _, _⟩ := y
  dsimp only at h
  subst h
  rfl

/-- One line of each program that writes the next buffer with the same value. -/
theorem Agree.step {lo n : ℕ} {V : Valuation τ sig Val} {V' : Valuation τ' sig' Val} (h : Agree lo n V V')
    (op : HloOp τ sig Val) (op' : HloOp τ' sig' Val) (y : TRef sig Ty) (y' : TRef sig' Ty)
    (hy : At y.ref (n + 1)) (hy' : At y'.ref (n + 1)) (hw : op.writes = {Proc.devRef .tc y.ref}) (hw' : op'.writes = {Proc.devRef .tc y'.ref})
    (he : get (op.result V) y = get (op'.result V') y') : Agree lo (n + 1) (op.result V) (op'.result V') := by
  intro T x x' k hlo hk hx hx'
  by_cases hkn : k = n + 1
  · subst hkn
    have e := hx.eq hy
    obtain rfl := ty_same e
    rw [ref_same e, ref_same (hx'.eq hy')]
    exact he
  · have ne : x.ref ≠ y.ref := fun e => hkn (hx.num (e ▸ hy))
    have ne' : x'.ref ≠ y'.ref := fun e => hkn (hx'.num (e ▸ hy'))
    unfold get
    rw [op.result_of_not_mem V (by rw [hw, Finset.mem_singleton]; exact devRef_ne_of_ne ne),
      op'.result_of_not_mem V' (by rw [hw', Finset.mem_singleton]; exact devRef_ne_of_ne ne')]
    exact h T x x' k hlo (by omega) hx hx'

theorem get_toBuf (x : TRef sig T) (v : T.Contents Val) : x.ofBuf (x.toBuf v) = v := by
  obtain ⟨x, rfl, _, _⟩ := x
  rfl

theorem get_nullary (y : TRef sig Ty) (v : Ty.Contents Val) (V : Valuation τ sig Val) : get ((TRef.nullary y v).result V) y = v :=
  (congrArg y.ofBuf (nullary_result y.ref (y.toBuf v) y.dev V)).trans (get_toBuf y v)

theorem get_unary (a : TRef sig Ta) (y : TRef sig Ty) (f : Ta.Contents Val → Ty.Contents Val) (V : Valuation τ sig Val) :
    get ((TRef.unary a y f).result V) y = f (get V a) :=
  (congrArg y.ofBuf (unary_result a.ref y.ref (fun u => y.toBuf (f (a.ofBuf u))) a.dev y.dev V)).trans (get_toBuf y _)

theorem get_binary (a : TRef sig Ta) (b : TRef sig Tb) (y : TRef sig Ty) (f : Ta.Contents Val → Tb.Contents Val → Ty.Contents Val) (V : Valuation τ sig Val) :
    get ((TRef.binary a b y f).result V) y = f (get V a) (get V b) :=
  (congrArg y.ofBuf (binary_result a.ref b.ref y.ref (fun u v => y.toBuf (f (a.ofBuf u) (b.ofBuf v))) a.dev b.dev y.dev V)).trans (get_toBuf y _)

theorem get_reshape (a : TRef sig Ta) (y : TRef sig Ty) (he : Ta.elt = Ty.elt) (hn : Ta.shape.ShapeCasts Ty.shape) (V : Valuation τ sig Val) :
    get ((TRef.reshape a y he hn).result V) y = fun i => he ▸ shapeCast Ty.shape (get V a) hn i := by
  have e := reshape_result (Val := Val) a.ref y.ref (((congrArg BufTy.elt a.ty_eq).trans he).trans (congrArg BufTy.elt y.ty_eq).symm)
    (congrArg BufTy.shape a.ty_eq ▸ congrArg BufTy.shape y.ty_eq ▸ hn) a.dev y.dev V
  refine (congrArg y.ofBuf e).trans ?_
  unfold get
  obtain ⟨a, rfl, _, _⟩ := a
  obtain ⟨y, rfl, _, _⟩ := y
  rfl

/-- Host lines that are the same in two programs, one for one, each writing the buffer after the last. -/
inductive Sim (τ τ' : Topo) {sig sig' : RefSig} {Val : EltTy → Type} (lo : ℕ) : ℕ → ℕ → List (HloOp τ sig Val) → List (HloOp τ' sig' Val) → Prop
  | nil (n : ℕ) : Sim τ τ' lo n n [] []
  | nullary {Ty : BufTy} {n k : ℕ} {ops : List (HloOp τ sig Val)} {ops' : List (HloOp τ' sig' Val)} (y : TRef sig Ty) (y' : TRef sig' Ty) (v v' : Ty.Contents Val)
      (hy : At y.ref (n + 1)) (hy' : At y'.ref (n + 1)) (hv : v = v') (h : Sim τ τ' lo (n + 1) k ops ops') :
      Sim τ τ' lo n k (TRef.nullary y v :: ops) (TRef.nullary y' v' :: ops')
  | unary {Ta Ty : BufTy} {n k : ℕ} {ops : List (HloOp τ sig Val)} {ops' : List (HloOp τ' sig' Val)} (a : TRef sig Ta) (a' : TRef sig' Ta) (y : TRef sig Ty) (y' : TRef sig' Ty)
      (f f' : Ta.Contents Val → Ty.Contents Val) (i : ℕ) (hi : lo ≤ i ∧ i ≤ n) (ha : At a.ref i) (ha' : At a'.ref i)
      (hy : At y.ref (n + 1)) (hy' : At y'.ref (n + 1)) (hv : f = f') (h : Sim τ τ' lo (n + 1) k ops ops') :
      Sim τ τ' lo n k (TRef.unary a y f :: ops) (TRef.unary a' y' f' :: ops')
  | reshape {Ta Ty : BufTy} {n k : ℕ} {ops : List (HloOp τ sig Val)} {ops' : List (HloOp τ' sig' Val)} (a : TRef sig Ta) (a' : TRef sig' Ta) (y : TRef sig Ty) (y' : TRef sig' Ty)
      (he he' : Ta.elt = Ty.elt) (hn hn' : Ta.shape.ShapeCasts Ty.shape) (i : ℕ) (hi : lo ≤ i ∧ i ≤ n) (ha : At a.ref i) (ha' : At a'.ref i)
      (hy : At y.ref (n + 1)) (hy' : At y'.ref (n + 1)) (h : Sim τ τ' lo (n + 1) k ops ops') :
      Sim τ τ' lo n k (TRef.reshape a y he hn :: ops) (TRef.reshape a' y' he' hn' :: ops')
  | binary {Ta Tb Ty : BufTy} {n k : ℕ} {ops : List (HloOp τ sig Val)} {ops' : List (HloOp τ' sig' Val)} (a : TRef sig Ta) (a' : TRef sig' Ta) (b : TRef sig Tb) (b' : TRef sig' Tb)
      (y : TRef sig Ty) (y' : TRef sig' Ty) (f f' : Ta.Contents Val → Tb.Contents Val → Ty.Contents Val) (i j : ℕ) (hi : lo ≤ i ∧ i ≤ n) (hj : lo ≤ j ∧ j ≤ n)
      (ha : At a.ref i) (ha' : At a'.ref i) (hb : At b.ref j) (hb' : At b'.ref j)
      (hy : At y.ref (n + 1)) (hy' : At y'.ref (n + 1)) (hv : f = f') (h : Sim τ τ' lo (n + 1) k ops ops') :
      Sim τ τ' lo n k (TRef.binary a b y f :: ops) (TRef.binary a' b' y' f' :: ops')

/-- Such lines keep the agreement. -/
theorem Sim.agree {lo n k : ℕ} {ops : List (HloOp τ sig Val)} {ops' : List (HloOp τ' sig' Val)} (h : Sim τ τ' lo n k ops ops') :
    ∀ (V : Valuation τ sig Val) (V' : Valuation τ' sig' Val), Agree lo n V V' → Agree lo k (after ops V) (after ops' V') := by
  induction h with
  | nil n => exact fun V V' h => h
  | nullary y y' v v' hy hy' hv _ ih =>
    intro V V' h
    refine ih _ _ (h.step _ _ y y' hy hy' rfl rfl ?_)
    rw [get_nullary, get_nullary, hv]
  | unary a a' y y' f f' i hi ha ha' hy hy' hv _ ih =>
    intro V V' h
    refine ih _ _ (h.step _ _ y y' hy hy' rfl rfl ?_)
    rw [get_unary, get_unary, hv, h _ a a' i hi.1 hi.2 ha ha']
  | reshape a a' y y' he he' hn hn' i hi ha ha' hy hy' _ ih =>
    intro V V' h
    refine ih _ _ (h.step _ _ y y' hy hy' rfl rfl ?_)
    rw [get_reshape, get_reshape, h _ a a' i hi.1 hi.2 ha ha']
  | binary a a' b b' y y' f f' i j hi hj ha ha' hb hb' hy hy' hv _ ih =>
    intro V V' h
    refine ih _ _ (h.step _ _ y y' hy hy' rfl rfl ?_)
    rw [get_binary, get_binary, hv, h _ a a' i hi.1 hi.2 ha ha', h _ b b' j hj.1 hj.2 hb hb']

end Cert.Proof.Twin

end
-- ==== Proof.Noise.lean ====
/-
  The random numbers: the kernel's program and the reference's draw them by the same host lines, so they are the same numbers.
-/
module

public import proofs.«01_k».proof.Proof.Twin
public import proofs.«01_k».proof.Proof.KerRun
public import proofs.«01_k».proof.Proof.RefBody

@[expose] public section

noncomputable section

namespace Cert.Proof.Noise

open Idealize.ShloMosaic Idealize.ShloMosaic.StableHlo Idealize.ShloMosaic.TcCoe Cert.Proof.Twin

variable {F : FTy → Type} [BitOps F]

set_option maxRecDepth 100000 in
set_option maxHeartbeats 40000000 in
theorem sim : Sim Cert.Kernel.τ Cert.Reference.τ 10 10 277 (Cert.Kernel.Gen.hostOps0_1 (F := F)) (Cert.Reference.Gen.hostOps0_1 (F := F)) := by
  unfold Cert.Kernel.Gen.hostOps0_1 Cert.Reference.Gen.hostOps0_1
  repeat first
    | refine Sim.binary _ _ _ _ _ _ _ _ _ _ ?_ ?_ ⟨rfl, rfl⟩ ⟨rfl, rfl⟩ ⟨rfl, rfl⟩ ⟨rfl, rfl⟩ ⟨rfl, rfl⟩ ⟨rfl, rfl⟩ rfl ?_
      · decide
      · decide
    | refine Sim.unary _ _ _ _ _ _ _ ?_ ⟨rfl, rfl⟩ ⟨rfl, rfl⟩ ⟨rfl, rfl⟩ ⟨rfl, rfl⟩ rfl ?_
      · decide
    | refine Sim.nullary _ _ _ _ ⟨rfl, rfl⟩ ⟨rfl, rfl⟩ rfl ?_
    | refine Sim.reshape _ _ _ _ _ _ _ _ _ ?_ ⟨rfl, rfl⟩ ⟨rfl, rfl⟩ ⟨rfl, rfl⟩ ⟨rfl, rfl⟩ ?_
      · decide
  exact Sim.nil _

theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

section

variable (V : Valuation Cert.Kernel.τ Cert.Kernel.sig (Elt F)) (V' : Valuation Cert.Reference.τ Cert.Reference.sig (Elt F))

/-- The two words of the random numbers' key, as the kernel's program builds them. -/
theorem seed_ker : after Cert.Kernel.Gen.hostOps0 V (Proc.devRef .tc Cert.Kernel.main_v6)
    = after Cert.Reference.Gen.hostOps0 V' (Proc.devRef .tc Cert.Reference.main_v6) := by
  unfold Cert.Kernel.Gen.hostOps0 Cert.Reference.Gen.hostOps0
  after_results

/-- The reference's program builds the same. -/
theorem seed : Agree 10 10 (after (Cert.Kernel.Gen.hostOps0 (F := F)) V) (after (Cert.Reference.Gen.hostOps0 (F := F)) V') := by
  intro T x x' k h1 h2 hx hx'
  obtain rfl : k = 10 := by omega
  have e : x.ref = (.of Cert.Kernel.main_v6 : TRef Cert.Kernel.sig ⟨Cert.Kernel.S2, .i32⟩).ref := hx.eq ⟨rfl, rfl⟩
  have e' : x'.ref = (.of Cert.Reference.main_v6 : TRef Cert.Reference.sig ⟨Cert.Kernel.S2, .i32⟩).ref := hx'.eq ⟨rfl, rfl⟩
  obtain rfl := ty_same e
  rw [ref_same e, ref_same e']
  exact seed_ker V V'

/-- So both programs draw the same random numbers. -/
theorem drawn : after (Cert.Kernel.Gen.hostOps0 ++ Cert.Kernel.Gen.hostOps0_1) V (Proc.devRef .tc Cert.Kernel.main_v7)
    = after (Cert.Reference.Gen.hostOps0 ++ Cert.Reference.Gen.hostOps0_1) V' (Proc.devRef .tc Cert.Reference.main_v7) := by
  rw [after_append, after_append]
  exact (sim (F := F)).agree _ _ (seed V V') ⟨Cert.Kernel.S4096x8192, .f32⟩ (.of Cert.Kernel.main_v7) (.of Cert.Reference.main_v7) 277 (by decide) (by decide) ⟨rfl, rfl⟩ ⟨rfl, rfl⟩

end

end Cert.Proof.Noise

end
-- ==== Proof.Selection.lean ====
/-
  The selection: the kernel and its plain reference end with the same words.
-/
module

public import proofs.«01_k».proof.Defs
public import proofs.«01_k».proof.Proof.KerOut
public import proofs.«01_k».proof.Proof.RefOut
public import proofs.«01_k».proof.Proof.Same
public import proofs.«01_k».proof.Proof.Noise

@[expose] public section

noncomputable section

namespace Cert.Proof.Selection

open Idealize.ShloMosaic Idealize.ShloMosaic.TcCoe Idealize.ShloMosaic.ValueIdx Cert.Proof.Same

variable {F : FTy → Type} [BitOps F]

section

open Cert.Reference Cert.Reference.Gen

variable (m : (ℓ : Loc nD τ sig) → Buf (Elt F) ℓ)

theorem flat3 {α : Type _} (a b c : List α) : List.flatten [a, b, c] = (a ++ b) ++ c := by simp

/-- The buffers after the random numbers are drawn, before the two inputs are laid out. -/
def mid (c : Dev nD) : Valuation τ sig (Elt F) := StableHlo.after (hostOps0 ++ hostOps0_1) (fun b => m (c, b))

theorem V_eq (c : Dev nD) (b : Ref sig .tc) : V m c b = StableHlo.after (hostOps0_2 (F := F)) (mid m c) (Proc.devRef .tc b) := by
  unfold mid
  rw [← Noise.after_append, ← flat3]

/-- Drawing the random numbers leaves the argument. -/
theorem mid_arg (c : Dev nD) : mid m c (Proc.devRef .tc main_arg0) = m ((c : Thread nD τ).loc main_arg0) := by
  refine Eq.trans ?_ (V_main_arg0 m c)
  rw [V_eq]
  generalize mid m c = W
  unfold hostOps0_2
  after_results

/-- The argument of group `n`: its part of the columns. -/
theorem group_at (A : Vec F S4x8192x1024 .f32) (n : Fin 32) (r : Fin 8192) (l : Fin 128) :
    (shapeCast S32x8192x128 (transpose S4x8x8192x128 [0, 2, 1, 3] (shapeCast S4x8192x8x128 A shapeCasts_S4x8192x1024_S4x8192x8x128) transposes_S4x8192x8x128_S4x8x8192x128_0_2_1_3) shapeCasts_S4x8x8192x128_S32x8192x128) (ix3 n r l)
      = A (ix3 ⟨n.val / 8, by omega⟩ r ⟨n.val % 8 * 128 + l.val, by omega⟩) := by
  refine (shapeCast_apply _ _ (ix3 n r l) (ix4 (⟨n.val / 8, by omega⟩ : Fin 4) (⟨n.val % 8, by omega⟩ : Fin 8) r l) ?_).trans ?_
  · rw [Shape.rowMajor_val_three, Shape.rowMajor_val_four]
    simp [ix2, ix3, ix4]
    try omega
  refine (transpose_apply [0, 2, 1, 3] _ _ _ (ix4 (⟨n.val / 8, by omega⟩ : Fin 4) r (⟨n.val % 8, by omega⟩ : Fin 8) l) ?_).trans ?_
  · intro a
    fin_cases a <;> rfl
  refine shapeCast_apply _ _ _ _ ?_
  rw [Shape.rowMajor_val_three, Shape.rowMajor_val_four]
  simp [ix2, ix3, ix4]
  try omega

/-- The random numbers of group `n`, turned. -/
theorem noise_at (G : Vec F S4096x8192 .f32) (n : Fin 32) (r : Fin 8192) (l : Fin 128) :
    (transpose S32x8192x128 [0, 2, 1] (shapeCast S32x128x8192 G shapeCasts_S4096x8192_S32x128x8192) transposes_S32x128x8192_S32x8192x128_0_2_1) (ix3 n r l)
      = G (ix2 ⟨n.val * 128 + l.val, by omega⟩ r) := by
  refine (transpose_apply [0, 2, 1] _ _ _ (ix3 n l r) ?_).trans ?_
  · intro a
    fin_cases a <;> rfl
  refine shapeCast_apply _ _ _ _ ?_
  rw [Shape.rowMajor_val_three, Shape.rowMajor_val_two]
  simp [ix2, ix3, ix4]
  try omega

end

section

variable (m : (ℓ : Loc Cert.Kernel.nD Cert.Kernel.τ Cert.Kernel.sig) → Buf (Elt F) ℓ)
  (m' : (ℓ : Loc Cert.Reference.nD Cert.Reference.τ Cert.Reference.sig) → Buf (Elt F) ℓ)

theorem flat2 {α : Type _} (a b : List α) : List.flatten [a, b] = a ++ b := by simp

/-- Both programs enter with the same random numbers. -/
theorem noise_same (c : Dev Cert.Kernel.nD) (c' : Dev Cert.Reference.nD) :
    KerRun.V m c Cert.Kernel.main_v7 = mid m' c' (Proc.devRef .tc Cert.Reference.main_v7) := by
  unfold mid
  refine Eq.trans ?_ (Noise.drawn (fun b => m (c, b)) _)
  rw [← flat2]

/-- The blocks of the argument are the same. -/
theorem arg_same (c : Dev Cert.Kernel.nD) (h : m' ((c.tc : Thread _ _).loc Cert.Reference.main_arg0) = m ((c.tc : Thread _ _).loc Cert.Kernel.main_arg0)) (n : Fin 32) :
    KerRun.iblk m c 0 (KerOut.point n) = RefBody.slab (Cert.Reference.Gen.V m' c Cert.Reference.main_v10) (n.cast RefOut.trips1.symm) := by
  refine funext fun (i : Cert.Kernel.S1x8192x128.Idx) => ?_
  obtain ⟨z, r, l, rfl⟩ : ∃ (z : Fin 1) (r : Fin 8192) (l : Fin 128), i = ix3 z r l := ⟨i 0, i 1, i 2, eq_ix3 i⟩
  obtain rfl := Subsingleton.elim z 0
  rw [RefOut.slab_at, V_eq, RefOut.entry0, mid_arg, group_at, h]
  refine (KerOut.block0_at m c n r l).trans ?_
  rw [KerRun.V_main_arg0]

/-- The blocks of the random numbers are the same but for their two axes. -/
theorem noise_turned (c : Dev Cert.Kernel.nD) (n : Fin 32) :
    Turned (KerRun.iblk m c 1 (KerOut.point n)) (RefBody.slab (Cert.Reference.Gen.V m' c Cert.Reference.main_v12) (n.cast RefOut.trips1.symm)) := by
  intro r l
  rw [RefOut.slab_at, V_eq, RefOut.entry1, noise_at, ← noise_same m m' c]
  exact KerOut.block1_at m c n r l

/-- One group's row, from the same weights and the same random numbers turned. -/
theorem row_same {x x' : Vec F Cert.Kernel.S1x8192x128 .f32} {y : Vec F Cert.Kernel.S128x8192 .f32} {y' : Vec F Cert.Kernel.S1x8192x128 .f32}
    (hx : x = x') (hy : Turned y y') :
    KerOut.less (KerBody.total x y) (Cert.Kernel.Gen.k0_pay17 x) = RefOut.less (RefBody.total x' y') (Cert.Reference.Gen.k0_pay7 x') := by
  subst hx
  rw [total_same x hy, mask_same]
  rfl

/-- The results by groups are the same. -/
theorem rows_same (c : Dev Cert.Kernel.nD) (h : m' ((c.tc : Thread _ _).loc Cert.Reference.main_arg0) = m ((c.tc : Thread _ _).loc Cert.Kernel.main_arg0)) :
    shapeCast Cert.Kernel.S32x128 (extractStridedSlice Cert.Kernel.S32x1x128 ![0, 0, 0] (KerOut.stacked m c) Cert.Kernel.Gen.slices_S32x8x128_S32x1x128_0_0_0) Cert.Kernel.Gen.shapeCasts_S32x1x128_S32x128
      = RefBody.rowsUpTo (Cert.Reference.Gen.V m' c Cert.Reference.main_v10) (Cert.Reference.Gen.V m' c Cert.Reference.main_v12) 32 := by
  funext i
  obtain ⟨n, l, rfl⟩ : ∃ (n : Fin 32) (l : Fin 128), i = ix2 n l := ⟨i 0, i 1, eq_ix2 i⟩
  refine Eq.trans ?_ (RefOut.rows_at _ _ n l 32 n.isLt le_rfl).symm
  refine (shapeCast_apply _ _ (ix2 n l) (ix3 n (0 : Fin 1) l) ?_).trans ?_
  · rw [Shape.rowMajor_val_three, Shape.rowMajor_val_two]
    simp [ix2, ix3]
  refine (extractStridedSlice_apply _ _ _ _ (ix3 n (0 : Fin 8) l) ?_).trans ?_
  · intro a
    fin_cases a <;> simp [ix3]
  refine (KerOut.out_at (KerRun.iblk m c 0 (KerOut.point n)) (KerRun.iblk m c 1 (KerOut.point n)) 0 l).trans ?_
  exact congrFun (row_same (arg_same m m' c h n) (noise_turned m m' c n)) _

end

theorem flat1 {α : Type _} (a : List α) : List.flatten [a] = a := by simp

/-- What the kernel's program leaves in its result. -/
theorem ker_result (m : (ℓ : Loc Cert.Kernel.nD Cert.Kernel.τ Cert.Kernel.sig) → Buf (Elt F) ℓ) (c : Dev Cert.Kernel.nD) :
    Pipeline.afterTail₀ Cert.Kernel.cfgs (KerRun.dats m) 0 (KerRun.V0 m) [Cert.Kernel.Gen.hostOps1] c Cert.Kernel.main_v11
      = shapeCast Cert.Kernel.S4x1024 (shapeCast Cert.Kernel.S32x128 (extractStridedSlice Cert.Kernel.S32x1x128 ![0, 0, 0] (KerOut.stacked m c) Cert.Kernel.Gen.slices_S32x8x128_S32x1x128_0_0_0) Cert.Kernel.Gen.shapeCasts_S32x1x128_S32x128) Cert.Kernel.Gen.shapeCasts_S32x128_S4x1024 := by
  unfold Pipeline.afterTail₀
  rw [flat1, KerOut.tail]
  have e := Pipeline.withArrays_arr Cert.Kernel.spec0 (by decide) c (KerRun.V0 m c) (fun w => (KerRun.dats m 0 c).arrAt w (Cert.Kernel.cfg0 (F := F)).N) 2
  have e' := e.trans (KerOut.final m c)
  exact congrArg (fun A => shapeCast Cert.Kernel.S4x1024 (shapeCast Cert.Kernel.S32x128 (extractStridedSlice Cert.Kernel.S32x1x128 ![0, 0, 0] A Cert.Kernel.Gen.slices_S32x8x128_S32x1x128_0_0_0) Cert.Kernel.Gen.shapeCasts_S32x1x128_S32x128) Cert.Kernel.Gen.shapeCasts_S32x128_S4x1024) e'

/-- What the reference's program leaves in its result. -/
theorem ref_result (m : (ℓ : Loc Cert.Reference.nD Cert.Reference.τ Cert.Reference.sig) → Buf (Elt F) ℓ) (c : Dev Cert.Reference.nD) :
    Pipeline.afterTail₀ Cert.Reference.cfgs (RefBody.dats m) 0 (Cert.Reference.Gen.V0 m) [Cert.Reference.Gen.hostOps1] c Cert.Reference.main_v14
      = shapeCast Cert.Reference.S4x1024 (RefBody.rowsUpTo (Cert.Reference.Gen.V m c Cert.Reference.main_v10) (Cert.Reference.Gen.V m c Cert.Reference.main_v12) 32) Cert.Reference.Gen.shapeCasts_S32x128_S4x1024 := by
  unfold Pipeline.afterTail₀
  rw [flat1, RefOut.tail]
  have e := Pipeline.withArrays_arr Cert.Reference.spec0 (by decide) c (Cert.Reference.Gen.V0 m c) (fun w => (RefBody.dats m 0 c).arrAt w Cert.Reference.cfg0.N) 2
  have e' := e.trans (RefOut.final m c)
  exact congrArg (fun A => shapeCast Cert.Reference.S4x1024 A Cert.Reference.Gen.shapeCasts_S32x128_S4x1024) e'

/-- From the same argument the kernel and its plain reference both end, with the same words and the argument unchanged. -/
theorem bitexact : Cert.bitexact_Kernel_Reference (hKernel := Cert.Kernel.Gen.facts) (hReference := Cert.Reference.Gen.facts) := by
  intro m g m' g' _ hargs
  refine ⟨fun c => Pipeline.afterTail₀ Cert.Kernel.cfgs (KerRun.dats m) 0 (KerRun.V0 m) [Cert.Kernel.Gen.hostOps1] c Cert.Kernel.main_v11, ?_, ?_⟩
  · exact (θ_run Cert.Kernel.defs _ _).mono (fun r h c => ⟨(h.1.1 c).2 Cert.Kernel.main_v11 (Pipeline.mem_restRefs_of Cert.Kernel.main_v11 (by decide) (by decide)), h.2.1 c⟩)
      (θ_run_and (KerRun.run m g) (KerRun.frame m g))
  · refine (θ_run Cert.Reference.defs _ _).mono (fun r h c => ⟨((h.1.1 c).2 Cert.Reference.main_v14 (Pipeline.mem_restRefs_of Cert.Reference.main_v14 (by decide) (by decide))).trans ?_, h.2.1 c⟩)
      (θ_run_and (RefBody.run m' g') (RefBody.frame m' g'))
    refine (ref_result m' c).trans (Eq.trans ?_ (ker_result m c).symm)
    exact congrArg (fun A => shapeCast Cert.Kernel.S4x1024 A Cert.Kernel.Gen.shapeCasts_S32x128_S4x1024) (rows_same m m' c (hargs c)).symm

end Cert.Proof.Selection

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Reference
public import proofs.«01_k».proof.Proof.Gen.Reference.Skeleton
public import proofs.«01_k».proof.Proof.Gen.Reference.Loops
public import proofs.«01_k».proof.Proof.Gen.Reference.Launch
public import proofs.«01_k».proof.Proof.Gen.Reference.Points
public import proofs.«01_k».proof.Proof.Gen.Reference.Frame
public import proofs.«01_k».proof.Proof.Gen.Kernel2.Frame
public import proofs.«01_k».proof.Proof.Linear
public import proofs.«01_k».proof.Proof.RefBody
public import proofs.«01_k».proof.Proof.KerRun
public import proofs.«01_k».proof.Proof.Selection

@[expose] public section

namespace Cert.Proof

open Idealize.ShloMosaic Idealize.SL.Sem

theorem claim : Cert.Claim :=
  ⟨Kernel.Gen.facts, Reference.Gen.facts, Kernel2.Gen.facts, Kernel2Ideal.Gen.facts, Reference2Ideal.Gen.facts,
    fun m ρ _ => KerRun.frame m ρ, fun m ρ _ => RefBody.frame m ρ, fun m ρ _ => Kernel2.Gen.frame m ρ,
    fun m ρ _ => Kernel2Ideal.Gen.frame m ρ, Linear.frame_reference, Selection.bitexact, trivial, Linear.algebraic⟩

end Cert.Proof

end
